-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S64x128 Cert.KernelIdeal.S32x128
  ∧ IdealRules.bf16_pack.Statement Cert.KernelIdeal.S32x128

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S12x2048x4096 : Shape := ⟨3, ![12, 2048, 4096]⟩
abbrev S12x2048x32 : Shape := ⟨3, ![12, 2048, 32]⟩
abbrev S4096x1088 : Shape := ⟨2, ![4096, 1088]⟩
abbrev S32x9 : Shape := ⟨2, ![32, 9]⟩
abbrev S1024 : Shape := ⟨1, ![1024]⟩
abbrev S12 : Shape := ⟨1, ![12]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S12x2048x4096 .fp8e4m3) (main_arg1 : FVec F S12x2048x32 .f32) (main_arg2 : FVec F S4096x1088 .fp8e4m3) (main_arg3 : FVec F S32x9 .f32) (main_arg4 : FVec F S1024 .f32) (main_arg5 : IVec S12 32) : IVec S_ 1 :=
  let main_v0 : FVec F S1024 .f32 := Host.absf main_arg4
  let main_cst : FVec F S_ .f32 := constant S_ .f32 0x7F7FFFFF#32
  let main_v1 : FVec F S1024 .f32 := broadcastInDim S1024 ![] bcast_S_S1024 main_cst
  let main_v2 : IVec S1024 1 := cmpf .ole main_v0 main_v1
  let main_c : IVec S_ 1 := constantI S_ 1 1#1
  let main_v3 : IVec S_ 1 := (fun x v => Host.reduce IntOp.andi x v reducesTo_S1024_S_d0 h_S_) main_v2 main_c
  main_v3
-- ==== Kernel.lean ====
abbrev S12x2048x4096 : Shape := ⟨3, ![12, 2048, 4096]⟩
abbrev S12x2048x32 : Shape := ⟨3, ![12, 2048, 32]⟩
abbrev S4096x1088 : Shape := ⟨2, ![4096, 1088]⟩
abbrev S32x9 : Shape := ⟨2, ![32, 9]⟩
abbrev S1024 : Shape := ⟨1, ![1024]⟩
abbrev S12 : Shape := ⟨1, ![12]⟩
abbrev S32 : Shape := ⟨1, ![32]⟩
abbrev S_ : Shape := ⟨0, ![]⟩
abbrev S32x1 : Shape := ⟨2, ![32, 1]⟩
abbrev S32x128 : Shape := ⟨2, ![32, 128]⟩
abbrev S9x32 : Shape := ⟨2, ![9, 32]⟩
abbrev S12x32x2048 : Shape := ⟨3, ![12, 32, 2048]⟩
abbrev S1088x4096 : Shape := ⟨2, ![1088, 4096]⟩
abbrev S1x1024 : Shape := ⟨2, ![1, 1024]⟩
abbrev S12x1184x2048 : Shape := ⟨3, ![12, 1184, 2048]⟩
abbrev S12x64x2048 : Shape := ⟨3, ![12, 64, 2048]⟩
abbrev S12x2048x1024 : Shape := ⟨3, ![12, 2048, 1024]⟩
abbrev S12x8x2048 : Shape := ⟨3, ![12, 8, 2048]⟩
abbrev S1x512x4096 : Shape := ⟨3, ![1, 512, 4096]⟩
abbrev S1x32x512 : Shape := ⟨3, ![1, 32, 512]⟩
abbrev S1x1184x512 : Shape := ⟨3, ![1, 1184, 512]⟩
abbrev S1x64x512 : Shape := ⟨3, ![1, 64, 512]⟩
abbrev S1x512x1024 : Shape := ⟨3, ![1, 512, 1024]⟩
abbrev S1x8x512 : Shape := ⟨3, ![1, 8, 512]⟩
abbrev S1024x128 : Shape := ⟨2, ![1024, 128]⟩
abbrev S512x4096 : Shape := ⟨2, ![512, 4096]⟩
abbrev S64x512 : Shape := ⟨2, ![64, 512]⟩
abbrev S1x1 : Shape := ⟨2, ![1, 1]⟩
abbrev S128x128 : Shape := ⟨2, ![128, 128]⟩
abbrev S64x128 : Shape := ⟨2, ![64, 128]⟩
abbrev S1x128 : Shape := ⟨2, ![1, 128]⟩
abbrev S32x512 : Shape := ⟨2, ![32, 512]⟩
abbrev S512x32 : Shape := ⟨2, ![512, 32]⟩
abbrev S1x512x128 : Shape := ⟨3, ![1, 512, 128]⟩
abbrev S512x128 : Shape := ⟨2, ![512, 128]⟩
abbrev S512x1 : Shape := ⟨2, ![512, 1]⟩
abbrev S1088x512 : Shape := ⟨2, ![1088, 512]⟩
abbrev S1024x512 : Shape := ⟨2, ![1024, 512]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S8x512 : Shape := ⟨2, ![8, 512]⟩
abbrev S1 : Shape := ⟨1, ![1]⟩
abbrev S32x2x128 : Shape := ⟨3, ![32, 2, 128]⟩
abbrev S32x1x128 : Shape := ⟨3, ![32, 1, 128]⟩
abbrev S1x64x128 : Shape := ⟨3, ![1, 64, 128]⟩
abbrev S1x128x128 : Shape := ⟨3, ![1, 128, 128]⟩

abbrev nBuf : Space → Nat
  | .hbm => 32
  | .vmem => 19
  | .smem => 2
  | _ => 0

abbrev bufTy : (tb : Table) → Fin (tcTables nBuf tb) → BufTy
  | .hbm, ⟨0, _⟩ => ⟨S12x2048x4096, .fp8e4m3⟩
  | .hbm, ⟨1, _⟩ => ⟨S12x2048x32, .f32⟩
  | .hbm, ⟨2, _⟩ => ⟨S4096x1088, .fp8e4m3⟩
  | .hbm, ⟨3, _⟩ => ⟨S32x9, .f32⟩
  | .hbm, ⟨4, _⟩ => ⟨S1024, .f32⟩
  | .hbm, ⟨5, _⟩ => ⟨S12, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32x1, .f32⟩
  | .hbm, ⟨23, _⟩ => ⟨S32x128, .f32⟩
  | .hbm, ⟨24, _⟩ => ⟨S9x32, .f32⟩
  | .hbm, ⟨25, _⟩ => ⟨S12x32x2048, .f32⟩
  | .hbm, ⟨26, _⟩ => ⟨S1088x4096, .fp8e4m3⟩
  | .hbm, ⟨27, _⟩ => ⟨S1x1024, .f32⟩
  | .hbm, ⟨28, _⟩ => ⟨S12x1184x2048, .i8⟩
  | .hbm, ⟨29, _⟩ => ⟨S12x64x2048, .bf16⟩
  | .hbm, ⟨30, _⟩ => ⟨S12x2048x1024, .fp8e4m3⟩
  | .hbm, ⟨31, _⟩ => ⟨S12x8x2048, .f32⟩
  | .local _ .vmem, ⟨0, _⟩ => ⟨S1x512x4096, .fp8e4m3⟩
  | .local _ .vmem, ⟨1, _⟩ => ⟨S1x512x4096, .fp8e4m3⟩
  | .local _ .vmem, ⟨2, _⟩ => ⟨S1x32x512, .f32⟩
  | .local _ .vmem, ⟨3, _⟩ => ⟨S1x32x512, .f32⟩
  | .local _ .vmem, ⟨4, _⟩ => ⟨S1088x4096, .fp8e4m3⟩
  | .local _ .vmem, ⟨5, _⟩ => ⟨S1x1024, .f32⟩
  | .local _ .vmem, ⟨6, _⟩ => ⟨S32x128, .f32⟩
  | .local _ .vmem, ⟨7, _⟩ => ⟨S1x1184x512, .i8⟩
  | .local _ .vmem, ⟨8, _⟩ => ⟨S1x1184x512, .i8⟩
  | .local _ .vmem, ⟨9, _⟩ => ⟨S1x64x512, .bf16⟩
  | .local _ .vmem, ⟨10, _⟩ => ⟨S1x64x512, .bf16⟩
  | .local _ .vmem, ⟨11, _⟩ => ⟨S1x512x1024, .fp8e4m3⟩
  | .local _ .vmem, ⟨12, _⟩ => ⟨S1x512x1024, .fp8e4m3⟩
  | .local _ .vmem, ⟨13, _⟩ => ⟨S1x8x512, .f32⟩
  | .local _ .vmem, ⟨14, _⟩ => ⟨S1x8x512, .f32⟩
  | .local _ .vmem, ⟨15, _⟩ => ⟨S1088x4096, .bf16⟩
  | .local _ .vmem, ⟨16, _⟩ => ⟨S1024x128, .f32⟩
  | .local _ .vmem, ⟨17, _⟩ => ⟨S512x4096, .bf16⟩
  | .local _ .vmem, ⟨18, _⟩ => ⟨S64x512, .f32⟩
  | .local _ .smem, ⟨0, _⟩ => ⟨S12, .i32⟩
  | .local _ .smem, ⟨1, _⟩ => ⟨S9x32, .f32⟩
  | _, _ => ⟨S12x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨2, ![12, 4], ![false, false]⟩

def k0_off1 (i : grid0.Coords) : Fin 1 → Nat :=
  let arg0 : BitVec 32 := BitVec.ofNat 32 (i 0).val
  let v2109 : Index := Scalar.indexCast arg0
  ![v2109.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1088x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1184x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F]
-- ==== ReferenceIdeal.lean ====
abbrev S12x2048x4096 : Shape := ⟨3, ![12, 2048, 4096]⟩
abbrev S12x2048x32 : Shape := ⟨3, ![12, 2048, 32]⟩
abbrev S4096x1088 : Shape := ⟨2, ![4096, 1088]⟩
abbrev S32x9 : Shape := ⟨2, ![32, 9]⟩
abbrev S1024 : Shape := ⟨1, ![1024]⟩
abbrev S12 : Shape := ⟨1, ![12]⟩
abbrev S32 : Shape := ⟨1, ![32]⟩
abbrev S_ : Shape := ⟨0, ![]⟩
abbrev S12x1184x2048 : Shape := ⟨3, ![12, 1184, 2048]⟩
abbrev S12x64x2048 : Shape := ⟨3, ![12, 64, 2048]⟩
abbrev S12x2048x1024 : Shape := ⟨3, ![12, 2048, 1024]⟩
abbrev S12x8x2048 : Shape := ⟨3, ![12, 8, 2048]⟩
abbrev S12x2048x32x128 : Shape := ⟨4, ![12, 2048, 32, 128]⟩
abbrev S12x2048x32x1 : Shape := ⟨4, ![12, 2048, 32, 1]⟩
abbrev S24576x4096 : Shape := ⟨2, ![24576, 4096]⟩
abbrev S32x9x1 : Shape := ⟨3, ![32, 9, 1]⟩
abbrev S32x9x128 : Shape := ⟨3, ![32, 9, 128]⟩
abbrev S32x1152 : Shape := ⟨2, ![32, 1152]⟩
abbrev S32x1088 : Shape := ⟨2, ![32, 1088]⟩
abbrev S32x128x1088 : Shape := ⟨3, ![32, 128, 1088]⟩
abbrev S32x1x1088 : Shape := ⟨3, ![32, 1, 1088]⟩
abbrev S24576x1088 : Shape := ⟨2, ![24576, 1088]⟩
abbrev S12x2048x1088 : Shape := ⟨3, ![12, 2048, 1088]⟩
abbrev S12x2048 : Shape := ⟨2, ![12, 2048]⟩
abbrev S12x2048x1 : Shape := ⟨3, ![12, 2048, 1]⟩
abbrev S1x1x1024 : Shape := ⟨3, ![1, 1, 1024]⟩
abbrev S12x2048x8x128 : Shape := ⟨4, ![12, 2048, 8, 128]⟩
abbrev S12x2048x8 : Shape := ⟨3, ![12, 2048, 8]⟩
abbrev S12x2048x8x1 : Shape := ⟨4, ![12, 2048, 8, 1]⟩
abbrev S12x2048x64 : Shape := ⟨3, ![12, 2048, 64]⟩
abbrev S12x2048x32x2 : Shape := ⟨4, ![12, 2048, 32, 2]⟩
abbrev S12x1 : Shape := ⟨2, ![12, 1]⟩
abbrev S1x1x32 : Shape := ⟨3, ![1, 1, 32]⟩
abbrev S12x2048x1024x1 : Shape := ⟨4, ![12, 2048, 1024, 1]⟩
abbrev S12x1024x2048 : Shape := ⟨3, ![12, 1024, 2048]⟩
abbrev S12x2048x8x4 : Shape := ⟨4, ![12, 2048, 8, 4]⟩
abbrev S12x32x2048 : Shape := ⟨3, ![12, 32, 2048]⟩
abbrev S12x2048x64x2 : Shape := ⟨4, ![12, 2048, 64, 2]⟩
abbrev S12x2048x64x1 : Shape := ⟨4, ![12, 2048, 64, 1]⟩
abbrev S12x2048x128 : Shape := ⟨3, ![12, 2048, 128]⟩
abbrev S12x128x2048 : Shape := ⟨3, ![12, 128, 2048]⟩

abbrev nBuf : Space → Nat
  | .hbm => 26
  | .vmem => 11
  | .smem => 0
  | _ => 0

abbrev bufTy : (tb : Table) → Fin (tcTables nBuf tb) → BufTy
  | .hbm, ⟨0, _⟩ => ⟨S12x2048x4096, .fp8e4m3⟩
  | .hbm, ⟨1, _⟩ => ⟨S12x2048x32, .f32⟩
  | .hbm, ⟨2, _⟩ => ⟨S4096x1088, .fp8e4m3⟩
  | .hbm, ⟨3, _⟩ => ⟨S32x9, .f32⟩
  | .hbm, ⟨4, _⟩ => ⟨S1024, .f32⟩
  | .hbm, ⟨5, _⟩ => ⟨S12, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S12x1184x2048, .i8⟩
  | .hbm, ⟨23, _⟩ => ⟨S12x64x2048, .bf16⟩
  | .hbm, ⟨24, _⟩ => ⟨S12x2048x1024, .fp8e4m3⟩
  | .hbm, ⟨25, _⟩ => ⟨S12x8x2048, .f32⟩
  | .local _ .vmem, ⟨0, _⟩ => ⟨S12x2048x4096, .fp8e4m3⟩
  | .local _ .vmem, ⟨1, _⟩ => ⟨S12x2048x32, .f32⟩
  | .local _ .vmem, ⟨2, _⟩ => ⟨S4096x1088, .fp8e4m3⟩
  | .local _ .vmem, ⟨3, _⟩ => ⟨S32x9, .f32⟩
  | .local _ .vmem, ⟨4, _⟩ => ⟨S1024, .f32⟩
  | .local _ .vmem, ⟨5, _⟩ => ⟨S12, .i32⟩
  | .local _ .vmem, ⟨6, _⟩ => ⟨S32, .f32⟩
  | .local _ .vmem, ⟨7, _⟩ => ⟨S12x1184x2048, .i8⟩
  | .local _ .vmem, ⟨8, _⟩ => ⟨S12x64x2048, .bf16⟩
  | .local _ .vmem, ⟨9, _⟩ => ⟨S12x2048x1024, .fp8e4m3⟩
  | .local _ .vmem, ⟨10, _⟩ => ⟨S12x8x2048, .f32⟩
  | _, _ => ⟨S12x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1088 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x1184x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x64x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x2048x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Spec.lean ====
/-
  The mathematics of the kernel and of its reference, token by token, over the extended reals: the scaled projection, the
  normalised latent row, the quantisation of a group of 128 latents to a power-of-two scale, the rotary turn. The kernel
  finds a group's exponent by searching for a float's exponent field; the reference takes a floored logarithm. The two
  agree below 2^126 (`scaleK_eq`, `invK_eq`), and a normalised row weighted by finite numbers stays below it (Proof/Bound.lean).
-/
module

public import Idealize.ShloMosaic.Lib.Pointwise
public import Idealize.ShloMosaic.Lib.IdealHost
public import Mathlib.Analysis.SpecialFunctions.Log.Basic

@[expose] public section

set_option maxRecDepth 16384

noncomputable section

namespace Cert.Spec

open Idealize.ShloMosaic

/-! ### The constants -/

/-- The constant 1024. -/
theorem c1024 : Ideal.ofBits .f32 0x44800000#32 = ((1024 : ℝ) : EReal) := by
  simp [Ideal.ofBits, Ideal.ieee]; rw [← EReal.coe_mul]; norm_num

/-- The constant 1/1024. -/
theorem cInv1024 : Ideal.ofBits .f32 0x3A800000#32 = ((1 / 1024 : ℝ) : EReal) := by
  simp [Ideal.ofBits, Ideal.ieee]; rw [← EReal.coe_mul]; norm_num

/-- The constant 2. -/
theorem cTwo : Ideal.ofBits .f32 0x40000000#32 = ((2 : ℝ) : EReal) := by
  simp [Ideal.ofBits, Ideal.ieee]; rw [← EReal.coe_mul]; norm_num

/-- The constant -126. -/
theorem cMinExp : Ideal.ofBits .f32 0xC2FC0000#32 = ((-126 : ℝ) : EReal) := by
  simp [Ideal.ofBits, Ideal.ieee]; rw [← EReal.coe_mul]; norm_num

/-- The constant minus infinity. -/
theorem cNegInf : Ideal.ofBits .f32 0xFF800000#32 = ⊥ := by
  simp [Ideal.ofBits, Ideal.ieee]

/-- The reciprocal of 448, as a number: not negative, and below 2^-8. -/
theorem cInv448 : ∃ c : ℝ, Ideal.ofBits .f32 0x3B124925#32 = (c : EReal) ∧ 0 ≤ c ∧ c ≤ 2⁻¹ ^ 8 := by
  refine ⟨9587 * 1000 / 1000 * 0 + ((2 ^ 23 + 1198373 : ℕ) : ℝ) * (2 : ℝ) ^ (-32 : ℤ), ?_, ?_, ?_⟩
  · simp [Ideal.ofBits, Ideal.ieee]
  · positivity
  · norm_num

/-- The epsilon of the mean square: a positive number. -/
theorem cEps : ∃ e : ℝ, Ideal.ofBits .f32 0x358637BD#32 = (e : EReal) ∧ 0 < e := by
  refine ⟨((2 ^ 23 + 407485 : ℕ) : ℝ) * (2 : ℝ) ^ (-43 : ℤ), ?_, ?_⟩
  · simp [Ideal.ofBits, Ideal.ieee]
  · positivity

/-- The largest finite float, as a number: below 2^128. -/
theorem cMax : ∃ g : ℝ, Ideal.ofBits .f32 0x7F7FFFFF#32 = (g : EReal) ∧ 0 ≤ g ∧ g ≤ 2 ^ 128 := by
  refine ⟨((2 ^ 23 + 8388607 : ℕ) : ℝ) * (2 : ℝ) ^ (104 : ℤ), ?_, ?_, ?_⟩
  · simp [Ideal.ofBits, Ideal.ieee]
  · positivity
  · norm_num

/-! ### Powers of two by their exponent field -/

/-- The float of exponent field `n` and fraction 0. -/
def pw (n : ℕ) : EReal := Ideal.ofBits .f32 (BitVec.ofNat 32 n <<< 23)

/-- The parts of a word with exponent field `n` and nothing else. -/
theorem field_bits : ∀ n : Fin 256, ((BitVec.ofNat 32 n.val <<< 23).extractLsb' 23 8).toNat = n.val
    ∧ ((BitVec.ofNat 32 n.val <<< 23).extractLsb' 0 23).toNat = 0
    ∧ (BitVec.ofNat 32 n.val <<< 23).extractLsb' 31 1 = 0#1 := by
  decide +kernel

/-- Field 0 is the number 0. -/
theorem pw_zero : pw 0 = 0 := by
  simp [pw, Ideal.ofBits, Ideal.ieee]

/-- Field 255 is infinity. -/
theorem pw_top : pw 255 = ⊤ := by
  simp [pw, Ideal.ofBits, Ideal.ieee]

/-- Any other field `n` is 2 to the `n - 127`. -/
theorem pw_pos (n : ℕ) (h0 : 0 < n) (h : n < 255) : pw n = (((2 : ℝ) ^ ((n : ℝ) - 127) : ℝ) : EReal) := by
  obtain ⟨h1, h2, h3⟩ := field_bits ⟨n, by omega⟩
  simp only at h1 h2 h3
  have e : (2 : ℝ) ^ ((n : ℝ) - 127) = (2 ^ 23 : ℝ) * (2 : ℝ) ^ ((n : ℤ) - 127 - 23) := by
    rw [show ((n : ℝ) - 127) = (((n : ℤ) - 127 : ℤ) : ℝ) by push_cast; ring, Real.rpow_intCast,
      zpow_sub₀ (two_ne_zero) _ 23]
    norm_num
    ring
  simp only [pw, Ideal.ofBits, Ideal.ieee, h1, h2, h3]
  rw [if_neg (by omega), if_neg (by omega), e]
  norm_num

/-! ### The exponent of a group: the kernel's search and the reference's logarithm -/

/-- One step of the kernel's search for the exponent field of `a`: try the field `k` higher. -/
def fld (k : BitVec 32) (a : EReal) (v : BitVec 32) : BitVec 32 :=
  Scalar.select (Ideal.cmp .olt a (Ideal.ofBits .f32 (IntOp.shli .vector (IntOp.addi v k) 23#32))) v (IntOp.addi v k)

/-- The exponent field of `a`, as the kernel searches for it. -/
def field (a : EReal) : BitVec 32 :=
  fld 1#32 a (fld 2#32 a (fld 4#32 a (fld 8#32 a (fld 16#32 a (fld 32#32 a (fld 64#32 a (fld 128#32 a 0#32)))))))

/-- The exponent the kernel scales by. -/
def expK (a : EReal) : BitVec 32 :=
  Scalar.select (Ideal.cmp .oeq a (Ideal.ofBits .f32 0x00000000#32)) 0#32 (IntOp.subi (field a) 126#32)

/-- The kernel's scale, a power of two by its exponent field. -/
def scaleK (a : EReal) : EReal := Ideal.ofBits .f32 (IntOp.shli .vector (IntOp.addi 127#32 (expK a)) 23#32)

/-- The kernel's inverse scale. -/
def invK (a : EReal) : EReal := Ideal.ofBits .f32 (IntOp.shli .vector (IntOp.subi 127#32 (expK a)) 23#32)

/-- The exponent the reference scales by. -/
def expo (a : EReal) : EReal :=
  if a = 0 then 0
  else max (Ideal.liftRound Int.floor (Ideal.div (Ideal.log a) (Ideal.log (Ideal.ofBits .f32 0x40000000#32))) + 1)
    (Ideal.ofBits .f32 0xC2FC0000#32)

/-- A shift by 23 puts a number in the exponent field. -/
theorem shli_word (n : ℕ) : IntOp.shli .vector (BitVec.ofNat 32 n) 23#32 = BitVec.ofNat 32 n <<< 23 := by
  simp [IntOp.shli]

/-- A step of the search, where the powers of two not above `a` are those of fields at most `n`. -/
theorem fld_eq {a : EReal} {n : ℕ} (hn : ∀ j ≤ 255, pw j ≤ a ↔ j ≤ n) (k b : ℕ) (h : b + k ≤ 255) :
    fld (BitVec.ofNat 32 k) a (BitVec.ofNat 32 b) = BitVec.ofNat 32 (if b + k ≤ n then b + k else b) := by
  have e : IntOp.addi (BitVec.ofNat 32 b) (BitVec.ofNat 32 k) = BitVec.ofNat 32 (b + k) := by
    simp [IntOp.addi, BitVec.ofNat_add]
  have hb := hn (b + k) h
  unfold fld
  rw [e, shli_word]
  change Scalar.select (Ideal.cmp .olt a (pw (b + k))) _ _ = _
  by_cases c : b + k ≤ n
  · have : ¬ a < pw (b + k) := not_lt.2 (hb.2 c)
    simp [Ideal.cmp, this, c, Scalar.select]
  · have : a < pw (b + k) := not_le.1 fun l => c (hb.1 l)
    simp [Ideal.cmp, this, c, Scalar.select]

/-- The search finds the greatest field whose power of two is not above `a`. -/
theorem field_eq {a : EReal} {n : ℕ} (h : n ≤ 255) (hn : ∀ j ≤ 255, pw j ≤ a ↔ j ≤ n) : field a = BitVec.ofNat 32 n := by
  have s (k b b' : ℕ) (hk : b + k ≤ 255) (hb : (if b + k ≤ n then b + k else b) = b') :
      fld (BitVec.ofNat 32 k) a (BitVec.ofNat 32 b) = BitVec.ofNat 32 b' := by rw [fld_eq hn k b hk, hb]
  unfold field
  rw [s 128 0 (n / 128 * 128) (by omega) (by split <;> omega), s 64 _ (n / 64 * 64) (by omega) (by split <;> omega),
    s 32 _ (n / 32 * 32) (by omega) (by split <;> omega), s 16 _ (n / 16 * 16) (by omega) (by split <;> omega),
    s 8 _ (n / 8 * 8) (by omega) (by split <;> omega), s 4 _ (n / 4 * 4) (by omega) (by split <;> omega),
    s 2 _ (n / 2 * 2) (by omega) (by split <;> omega), s 1 _ n (by omega) (by split <;> omega)]

/-- A power of two is at most `r` as its exponent is at most `log r / log 2`. -/
theorem rpow_le_iff {r : ℝ} (h0 : 0 < r) (x : ℝ) : (2 : ℝ) ^ x ≤ r ↔ x ≤ Real.log r / Real.log 2 := by
  rw [le_div_iff₀ (Real.log_pos (by norm_num)), Real.rpow_def_of_pos (by norm_num), Real.le_log_iff_exp_le h0, mul_comm x]

/-- What the two exponents are for a positive number below 2^126: `n - 126`, with `n` between 0 and 252. -/
theorem exponents {r : ℝ} (h0 : 0 < r) (h1 : r < 2 ^ 126) : ∃ n : ℕ, n ≤ 252
    ∧ expK (r : EReal) = BitVec.ofNat 32 n - 126#32 ∧ expo (r : EReal) = (((n : ℝ) - 126 : ℝ) : EReal) := by
  set m : ℤ := ⌊Real.log r / Real.log 2⌋ with hm
  have hlt : m < 126 := by
    refine Int.floor_lt.2 ?_
    rw [← not_le, ← rpow_le_iff h0, not_le]
    calc r < 2 ^ 126 := h1
      _ = (2 : ℝ) ^ (((126 : ℤ) : ℝ)) := by rw [Real.rpow_intCast]; norm_num
  have hne : ((r : ℝ) : EReal) ≠ 0 := by exact_mod_cast h0.ne'
  refine ⟨(m + 127).toNat, by omega, ?_, ?_⟩
  · have hn : ∀ j ≤ 255, pw j ≤ (r : EReal) ↔ j ≤ (m + 127).toNat := by
      intro j hj
      rcases Nat.eq_zero_or_pos j with rfl | hp
      · simp [pw_zero, h0.le]
      rcases Nat.lt_or_ge j 255 with hl | hg
      · rw [pw_pos j hp hl, EReal.coe_le_coe_iff, rpow_le_iff h0,
          show ((j : ℝ) - 127) = (((j : ℤ) - 127 : ℤ) : ℝ) by push_cast; ring, ← Int.le_floor, ← hm]
        omega
      · obtain rfl : j = 255 := by omega
        rw [pw_top]
        simp
        omega
    unfold expK
    rw [field_eq (by omega) hn]
    simp [Ideal.cmp, Scalar.select, IntOp.subi, h0.ne']
  · have l2 : Real.log 2 ≠ 0 := (Real.log_pos (by norm_num)).ne'
    have e1 : Ideal.log (r : EReal) = ((Real.log r : ℝ) : EReal) := by
      show (if r ≤ 0 then (⊥ : EReal) else (Real.log r : EReal)) = _
      rw [if_neg (by linarith)]
    have e2 : Ideal.log (((2 : ℝ)) : EReal) = ((Real.log 2 : ℝ) : EReal) := by
      show (if (2 : ℝ) ≤ 0 then (⊥ : EReal) else (Real.log 2 : EReal)) = _
      rw [if_neg (by norm_num)]
    have e3 : Ideal.div ((Real.log r : ℝ) : EReal) ((Real.log 2 : ℝ) : EReal) = ((Real.log r / Real.log 2 : ℝ) : EReal) := by
      unfold Ideal.div
      rw [if_neg (by exact_mod_cast l2), ← EReal.coe_inv, ← EReal.coe_mul, div_eq_mul_inv]
    unfold expo
    rw [if_neg hne, cTwo, e1, e2, e3, cMinExp]
    show max (((⌊Real.log r / Real.log 2⌋ : ℝ) : EReal) + 1) _ = _
    rw [← hm, ← EReal.coe_one, ← EReal.coe_add]
    rcases le_total (-126) (m + 1) with hc | hc
    · rw [max_eq_left (EReal.coe_le_coe_iff.2 (by exact_mod_cast hc)), EReal.coe_eq_coe_iff]
      have : (((m + 127).toNat : ℤ) : ℝ) = ((m + 127 : ℤ) : ℝ) := by congr 1; omega
      rw [show (((m + 127).toNat : ℕ) : ℝ) = (((m + 127).toNat : ℤ) : ℝ) by norm_cast, this]
      push_cast; ring
    · rw [max_eq_right (EReal.coe_le_coe_iff.2 (by exact_mod_cast hc)), EReal.coe_eq_coe_iff, show (m + 127).toNat = 0 by omega]
      norm_num

/-- Two to the 0 is 1. -/
theorem exp2_zero : Ideal.exp2 0 = 1 := by
  show ((Real.rpow 2 0 : ℝ) : EReal) = 1
  simp

/-- Below 2^126 the kernel's scale is two to the reference's exponent. -/
theorem scaleK_eq {a : EReal} (h0 : 0 ≤ a) (h1 : a < ((2 ^ 126 : ℝ) : EReal)) : scaleK a = Ideal.exp2 (expo a) := by
  induction a using EReal.rec with
  | bot => simp at h0
  | top => simp at h1
  | coe r =>
    rcases (EReal.coe_nonneg.1 h0).eq_or_lt with rfl | hp
    · have := pw_pos 127 (by omega) (by omega)
      norm_num at this
      simp [scaleK, expK, expo, Ideal.cmp, Scalar.select, IntOp.addi, shli_word 127, exp2_zero]
    · obtain ⟨n, hn, e1, e2⟩ := exponents hp (EReal.coe_lt_coe_iff.1 h1)
      have : IntOp.addi 127#32 (expK (r : EReal)) = BitVec.ofNat 32 (n + 1) := by
        rw [e1]; simp only [IntOp.addi]
        bv_omega
      rw [scaleK, this, shli_word, e2]
      refine (pw_pos (n + 1) (by omega) (by omega)).trans ?_
      show _ = (((2 : ℝ) ^ ((n : ℝ) - 126) : ℝ) : EReal)
      push_cast; congr 2; ring

/-- Below 2^126 the kernel's inverse scale is two to minus the reference's exponent. -/
theorem invK_eq {a : EReal} (h0 : 0 ≤ a) (h1 : a < ((2 ^ 126 : ℝ) : EReal)) : invK a = Ideal.exp2 (0 - expo a) := by
  induction a using EReal.rec with
  | bot => simp at h0
  | top => simp at h1
  | coe r =>
    rcases (EReal.coe_nonneg.1 h0).eq_or_lt with rfl | hp
    · have := pw_pos 127 (by omega) (by omega)
      norm_num at this
      simp [invK, expK, expo, Ideal.cmp, Scalar.select, IntOp.subi, shli_word 127, exp2_zero]
    · obtain ⟨n, hn, e1, e2⟩ := exponents hp (EReal.coe_lt_coe_iff.1 h1)
      have : IntOp.subi 127#32 (expK (r : EReal)) = BitVec.ofNat 32 (253 - n) := by
        rw [e1]; simp only [IntOp.subi]
        bv_omega
      rw [invK, this, shli_word, e2, ← EReal.coe_zero, ← EReal.coe_sub]
      refine (pw_pos (253 - n) (by omega) (by omega)).trans ?_
      show _ = (((2 : ℝ) ^ (0 - ((n : ℝ) - 126)) : ℝ) : EReal)
      rw [Nat.cast_sub (by omega)]
      push_cast; congr 2; ring

end Cert.Spec

end
-- ==== Proof.Codes.lean ====
/-
  The bits of a number in a small float format, token by token over the extended reals: the kernel finds the magnitude's
  bits by searching for the greatest code whose value is not above it, the reference computes them from a floored
  logarithm and a floored fraction. The two agree.
-/
module

public import proofs.«01_k».proof.Proof.Spec

@[expose] public section

set_option maxRecDepth 16384

noncomputable section

namespace Cert.Codes

open Idealize.ShloMosaic

/-! ### Code numbers and their values, in units of the smallest -/

/-- The value of code `j`, in units of the smallest positive one, where each binade has `P` codes. -/
def units (P j : ℕ) : ℕ := if j < P then j else (P + j % P) * 2 ^ (j / P - 1)

/-- Which codes are at most `B` units, where `B` lies in binade `k` of the binades `0` to `K`. -/
theorem units_le {P K k B j : ℕ} (hP : 0 < P) (hk : k ≤ K) (h1 : k = 0 ∨ P * 2 ^ k ≤ B) (h2 : k = K ∨ B < P * 2 ^ (k + 1))
    (hj : j < P * (K + 2)) : units P j ≤ B ↔ j ≤ k * P + B / 2 ^ k := by
  have hpos : 0 < 2 ^ k := Nat.two_pow_pos k
  have hmod : j % P < P := Nat.mod_lt _ hP
  have hdm : P * (j / P) + j % P = j := Nat.div_add_mod j P
  unfold units
  split_ifs with hjP
  · rcases h1 with rfl | h1
    · simp
    · rcases Nat.eq_zero_or_pos k with rfl | hk0
      · simp
      · have a1 : P ≤ P * 2 ^ k := Nat.le_mul_of_pos_right _ hpos
        have a2 : P ≤ k * P := Nat.le_mul_of_pos_left _ hk0
        constructor
        · intro _; exact (hjP.le.trans a2).trans (Nat.le_add_right _ _)
        · intro _; exact (hjP.le.trans a1).trans h1
  · obtain ⟨d, hd⟩ : ∃ d, j / P = d + 1 := ⟨j / P - 1, by
      have : 0 < j / P := Nat.div_pos (by omega) hP
      omega⟩
    rw [hd] at hdm ⊢
    have hdK : d ≤ K := by
      have : j / P < K + 2 := Nat.div_lt_of_lt_mul hj
      omega
    simp only [Nat.add_sub_cancel]
    rcases Nat.lt_trichotomy d k with h | h | h
    · have hB : P * 2 ^ k ≤ B := h1.resolve_left (by omega)
      have q : P ≤ B / 2 ^ k := (Nat.le_div_iff_mul_le hpos).2 hB
      have a1 : (P + j % P) * 2 ^ d ≤ (P * 2) * 2 ^ d := Nat.mul_le_mul_right _ (by omega)
      have a2 : P * 2 * 2 ^ d = P * 2 ^ (d + 1) := by rw [pow_succ]; ring
      have a3 : P * 2 ^ (d + 1) ≤ P * 2 ^ k := Nat.mul_le_mul_left _ (Nat.pow_le_pow_right (by omega) (by omega))
      have a4 : P * (d + 1) ≤ P * k := Nat.mul_le_mul_left _ (by omega)
      have a5 : k * P = P * k := Nat.mul_comm _ _
      constructor <;> intro <;> omega
    · subst h
      rw [← Nat.le_div_iff_mul_le hpos]
      have a5 : P * (d + 1) = d * P + P := by ring
      omega
    · have hB : B < P * 2 ^ (k + 1) := h2.resolve_left (by omega)
      have a1 : P * 2 ^ (k + 1) ≤ (P + j % P) * 2 ^ d :=
        Nat.mul_le_mul (by omega) (Nat.pow_le_pow_right (by omega) (by omega))
      have a2 : B / 2 ^ k < P * 2 := by
        rw [Nat.div_lt_iff_lt_mul hpos]
        rwa [pow_succ, Nat.mul_comm (2 ^ k) 2, ← Nat.mul_assoc] at hB
      have a3 : P * (k + 2) ≤ P * (d + 1) := Nat.mul_le_mul_left _ (by omega)
      have a4 : P * (k + 2) = k * P + P * 2 := by ring
      constructor <;> intro <;> omega

/-! ### The reference's magnitude -/

/-- The exponent of `a`, held between `lo` and `hi`. -/
def expOf (lo hi a : EReal) : EReal :=
  min hi (max lo (Ideal.liftRound Int.floor (Ideal.div (Ideal.log a) (Ideal.log (Ideal.ofBits .f32 0x40000000#32)))))

/-- The magnitude's bits: the exponent's number, then the fraction's, at most `lim`. -/
def magnitude (lo hi lo' P p lim a : EReal) : BitVec 32 :=
  Ideal.fptosi 32 (min ((expOf lo hi a - lo') * P + Ideal.liftRound Int.floor (a * Ideal.exp2 (p - expOf lo hi a))) lim)

/-- The exponent of a number that is not negative. -/
theorem expOf_spec {r : ℝ} (h0 : 0 ≤ r) (m : ℤ) (K : ℕ) : ∃ k : ℕ, k ≤ K
    ∧ expOf ((m : ℝ) : EReal) (((m : ℝ) + K : ℝ) : EReal) (r : EReal) = (((m : ℝ) + k : ℝ) : EReal)
    ∧ (k = 0 ∨ (2 : ℝ) ^ (m + k) ≤ r) ∧ (k = K ∨ r < (2 : ℝ) ^ (m + k + 1)) := by
  have l2 : 0 < Real.log 2 := Real.log_pos (by norm_num)
  have e2 : Ideal.log (((2 : ℝ)) : EReal) = ((Real.log 2 : ℝ) : EReal) := by
    show (if (2 : ℝ) ≤ 0 then (⊥ : EReal) else (Real.log 2 : EReal)) = _
    rw [if_neg (by norm_num)]
  have hK : (((m : ℝ) : EReal)) ≤ (((m : ℝ) + K : ℝ) : EReal) := by
    rw [EReal.coe_le_coe_iff]; linarith [(Nat.cast_nonneg K : (0 : ℝ) ≤ K)]
  rcases h0.eq_or_lt with rfl | hp
  · refine ⟨0, Nat.zero_le _, ?_, .inl rfl, .inr (by positivity)⟩
    have e1 : Ideal.log ((0 : ℝ) : EReal) = ⊥ := by
      show (if (0 : ℝ) ≤ 0 then (⊥ : EReal) else (Real.log 0 : EReal)) = _
      rw [if_pos le_rfl]
    unfold expOf
    rw [Spec.cTwo, e1, e2, Ideal.div_coe l2.ne', EReal.bot_mul_coe_of_pos (by positivity)]
    show min _ (max _ ⊥) = _
    rw [max_eq_left bot_le, min_eq_right hK]
    simp
  · set f : ℤ := ⌊Real.log r / Real.log 2⌋ with hf
    have e1 : Ideal.log (r : EReal) = ((Real.log r : ℝ) : EReal) := by
      show (if r ≤ 0 then (⊥ : EReal) else (Real.log r : EReal)) = _
      rw [if_neg (by linarith)]
    have e3 : Ideal.div ((Real.log r : ℝ) : EReal) ((Real.log 2 : ℝ) : EReal) = ((Real.log r / Real.log 2 : ℝ) : EReal) := by
      rw [Ideal.div_coe l2.ne', ← EReal.coe_mul]; congr 1; ring
    have hz (z : ℤ) : (2 : ℝ) ^ z ≤ r ↔ z ≤ f := by
      rw [← Real.rpow_intCast, Spec.rpow_le_iff hp, ← Int.le_floor]
    have e4 : expOf ((m : ℝ) : EReal) (((m : ℝ) + K : ℝ) : EReal) (r : EReal) = ((min ((m : ℝ) + K) (max (m : ℝ) (f : ℝ)) : ℝ) : EReal) := by
      unfold expOf
      rw [Spec.cTwo, e1, e2, e3]
      show min _ (max _ (((⌊Real.log r / Real.log 2⌋ : ℤ) : ℝ) : EReal)) = _
      rw [← hf, EReal.coe_strictMono.monotone.map_min, EReal.coe_strictMono.monotone.map_max]
    refine ⟨(min (m + K) (max m f) - m).toNat, by omega, ?_, ?_, ?_⟩
    · rw [e4, EReal.coe_eq_coe_iff]
      have : (((min (m + K) (max m f) - m).toNat : ℤ) : ℝ) = ((min (m + K) (max m f) - m : ℤ) : ℝ) := by congr 1; omega
      rw [show (((min (m + K) (max m f) - m).toNat : ℕ) : ℝ) = (((min (m + K) (max m f) - m).toNat : ℤ) : ℝ) by norm_cast, this]
      push_cast; ring
    · rcases le_or_gt f m with h | h
      · left; omega
      · right; rw [hz]; omega
    · rcases le_or_gt (m + K) f with h | h
      · left; omega
      · right; rw [← not_le, hz]; omega

/-- A float cast to a word, where it is a number of the word's range. -/
theorem fptosi_nat (n : ℕ) (h : n < 2 ^ 31) : Ideal.fptosi 32 (((n : ℝ)) : EReal) = BitVec.ofNat 32 n := by
  rw [Ideal.fptosi, Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) by norm_num at h ⊢; omega]
  simp

/-- The reference's magnitude of a number that is not negative: how many codes are not above it. -/
theorem magnitude_spec {r : ℝ} (h0 : 0 ≤ r) (m : ℤ) (K p L : ℕ) (hL : L < 2 ^ 31) : ∃ n : ℕ,
    magnitude ((m : ℝ) : EReal) (((m : ℝ) + K : ℝ) : EReal) ((m : ℝ) : EReal) (((2 ^ p : ℕ) : ℝ) : EReal) ((p : ℝ) : EReal) ((L : ℝ) : EReal) (r : EReal)
      = BitVec.ofNat 32 (min n L)
    ∧ ∀ j < 2 ^ p * (K + 2), ((units (2 ^ p) j : ℝ) * (2 : ℝ) ^ (m - p) ≤ r ↔ j ≤ n) := by
  obtain ⟨k, hk, e, h1, h2⟩ := expOf_spec h0 m K
  set A : ℝ := r * (2 : ℝ) ^ ((p : ℤ) - m) with hA
  have hu : (0 : ℝ) < (2 : ℝ) ^ (m - p) := by positivity
  have hA0 : 0 ≤ A := by positivity
  have hz : (2 : ℝ) ^ (m - p) * (2 : ℝ) ^ ((p : ℤ) - m) = 1 := by rw [← zpow_add₀ two_ne_zero]; simp
  have hle (x : ℝ) : x * (2 : ℝ) ^ (m - p) ≤ r ↔ x ≤ A := by
    rw [hA, ← div_le_iff₀ (by positivity), div_eq_mul_inv, ← zpow_neg]
    simp
  have hnat (q : ℕ) : (q : ℝ) ≤ A ↔ q ≤ ⌊A⌋₊ := (Nat.le_floor_iff hA0).symm
  have hpow (i : ℕ) : (((2 ^ p * 2 ^ i : ℕ) : ℝ)) * (2 : ℝ) ^ (m - p) = (2 : ℝ) ^ (m + i) := by
    push_cast
    rw [← zpow_natCast, ← zpow_natCast, ← zpow_add₀ two_ne_zero, ← zpow_add₀ two_ne_zero]
    congr 1; ring
  refine ⟨k * 2 ^ p + ⌊A⌋₊ / 2 ^ k, ?_, fun j hj => ?_⟩
  · unfold magnitude
    rw [e]
    have x1 : Ideal.exp2 (((p : ℝ) : EReal) - (((m : ℝ) + k : ℝ) : EReal)) = (((2 : ℝ) ^ ((p : ℤ) - m - k) : ℝ) : EReal) := by
      rw [← EReal.coe_sub]
      show (((2 : ℝ) ^ ((p : ℝ) - ((m : ℝ) + k)) : ℝ) : EReal) = _
      rw [← Real.rpow_intCast]; push_cast; congr 2; ring
    have x2 : r * (2 : ℝ) ^ ((p : ℤ) - m - k) = A / ((2 ^ k : ℕ) : ℝ) := by
      rw [hA, zpow_sub₀ two_ne_zero, zpow_natCast]; push_cast; ring
    have x3 : ((⌊r * (2 : ℝ) ^ ((p : ℤ) - m - k)⌋ : ℤ) : ℝ) = ((⌊A⌋₊ / 2 ^ k : ℕ) : ℝ) := by
      have hN : (0 : ℝ) < ((2 ^ k : ℕ) : ℝ) := by positivity
      have c1 : (((⌊A⌋₊ / 2 ^ k * 2 ^ k : ℕ) : ℝ)) ≤ A := (hnat _).2 (Nat.div_mul_le_self _ _)
      have c2 : A < (((⌊A⌋₊ / 2 ^ k + 1) * 2 ^ k : ℕ) : ℝ) := by
        refine lt_of_lt_of_le (Nat.lt_floor_add_one A) ?_
        have : ⌊A⌋₊ + 1 ≤ (⌊A⌋₊ / 2 ^ k + 1) * 2 ^ k := Nat.lt_mul_of_div_lt (Nat.lt_succ_self _) (Nat.two_pow_pos k)
        exact_mod_cast this
      have : ⌊r * (2 : ℝ) ^ ((p : ℤ) - m - k)⌋ = ((⌊A⌋₊ / 2 ^ k : ℕ) : ℤ) := by
        rw [x2, Int.floor_eq_iff, le_div_iff₀ hN, div_lt_iff₀ hN]
        rw [Nat.cast_mul] at c1 c2
        rw [Nat.cast_add] at c2
        exact ⟨by exact_mod_cast c1, by exact_mod_cast c2⟩
      rw [this]
      norm_cast
    rw [x1, ← EReal.coe_mul]
    show Ideal.fptosi 32 (min (_ + (((⌊r * (2 : ℝ) ^ ((p : ℤ) - m - k)⌋ : ℤ) : ℝ) : EReal)) _) = _
    rw [x3, ← EReal.coe_sub, ← EReal.coe_mul, ← EReal.coe_add, ← EReal.coe_strictMono.monotone.map_min,
      show (m : ℝ) + k - m = k by ring]
    rw [show ((k : ℝ) * ((2 ^ p : ℕ) : ℝ) + ((⌊A⌋₊ / 2 ^ k : ℕ) : ℝ)) = ((k * 2 ^ p + ⌊A⌋₊ / 2 ^ k : ℕ) : ℝ) by push_cast; ring,
      ← Nat.cast_min]
    exact fptosi_nat _ (lt_of_le_of_lt (min_le_right _ _) hL)
  · rw [hle, hnat]
    refine units_le (by positivity) hk (h1.imp id fun h => ?_) (h2.imp id fun h => ?_) hj
    · rw [← hnat, ← hle, hpow]; exact h
    · rw [← not_le, ← hnat, ← hle, hpow, not_le]
      push_cast; rwa [← add_assoc]

/-! ### The kernel's search -/

/-- One step of the search for the code of `a`: try the code `k` higher. -/
def step (val : BitVec 32 → EReal) (k : BitVec 32) (a : EReal) (v : BitVec 32) : BitVec 32 :=
  Scalar.select (Ideal.cmp .olt a (val (IntOp.addi v k))) v (IntOp.addi v k)

/-- A step of the search, where the codes not above `a` are those up to `n`. -/
theorem step_eq {val : BitVec 32 → EReal} {a : EReal} {n N : ℕ} (hn : ∀ j ≤ N, val (BitVec.ofNat 32 j) ≤ a ↔ j ≤ n) (k b : ℕ) (h : b + k ≤ N) :
    step val (BitVec.ofNat 32 k) a (BitVec.ofNat 32 b) = BitVec.ofNat 32 (if b + k ≤ n then b + k else b) := by
  have e : IntOp.addi (BitVec.ofNat 32 b) (BitVec.ofNat 32 k) = BitVec.ofNat 32 (b + k) := by
    simp [IntOp.addi, BitVec.ofNat_add]
  have hb := hn (b + k) h
  unfold step
  rw [e]
  by_cases c : b + k ≤ n
  · have : ¬ a < val (BitVec.ofNat 32 (b + k)) := not_lt.2 (hb.2 c)
    simp [Ideal.cmp, this, c, Scalar.select]
  · have : a < val (BitVec.ofNat 32 (b + k)) := not_le.1 fun l => c (hb.1 l)
    simp [Ideal.cmp, this, c, Scalar.select]

/-- The value the kernel gives a code of four exponent and three fraction bits. -/
def val8 (w : BitVec 32) : EReal :=
  Scalar.select (IntOp.cmpi .slt w 8#32) (((w.toInt : ℝ) : EReal) * Ideal.ofBits .f32 0x3B000000#32)
    (Ideal.ofBits .f32 (IntOp.shli .vector (IntOp.addi w 960#32) 20#32))

/-- The value the kernel gives a code of eight exponent and seven fraction bits. -/
def val16 (w : BitVec 32) : EReal := Ideal.ofBits .f32 (IntOp.shli .vector w 16#32)

/-- The greatest code of four exponent and three fraction bits not above `a`, as the kernel searches for it. -/
def search8 (a : EReal) : BitVec 32 :=
  step val8 1#32 a (step val8 2#32 a (step val8 4#32 a (step val8 8#32 a (step val8 16#32 a (step val8 32#32 a (step val8 64#32 a 0#32))))))

/-- The greatest code of eight exponent and seven fraction bits not above `a`, as the kernel searches for it. -/
def search16 (a : EReal) : BitVec 32 :=
  step val16 1#32 a (step val16 2#32 a (step val16 4#32 a (step val16 8#32 a (step val16 16#32 a (step val16 32#32 a (step val16 64#32 a
    (step val16 128#32 a (step val16 256#32 a (step val16 512#32 a (step val16 1024#32 a (step val16 2048#32 a (step val16 4096#32 a
      (step val16 8192#32 a (step val16 16384#32 a 0#32))))))))))))))

/-- The search for the greatest of 127 codes. -/
theorem search8_eq {a : EReal} {n : ℕ} (h : n ≤ 127) (hn : ∀ j ≤ 127, val8 (BitVec.ofNat 32 j) ≤ a ↔ j ≤ n) : search8 a = BitVec.ofNat 32 n := by
  have s (k b b' : ℕ) (hk : b + k ≤ 127) (hb : (if b + k ≤ n then b + k else b) = b') :
      step val8 (BitVec.ofNat 32 k) a (BitVec.ofNat 32 b) = BitVec.ofNat 32 b' := by rw [step_eq hn k b hk, hb]
  unfold search8
  rw [s 64 0 (n / 64 * 64) (by omega) (by split <;> omega),
    s 32 _ (n / 32 * 32) (by omega) (by split <;> omega), s 16 _ (n / 16 * 16) (by omega) (by split <;> omega),
    s 8 _ (n / 8 * 8) (by omega) (by split <;> omega), s 4 _ (n / 4 * 4) (by omega) (by split <;> omega),
    s 2 _ (n / 2 * 2) (by omega) (by split <;> omega), s 1 _ n (by omega) (by split <;> omega)]

/-- The search for the greatest of 32639 codes, below infinity's. -/
theorem search16_eq {a : EReal} {n : ℕ} (h : n ≤ 32639) (hn : ∀ j ≤ 32640, val16 (BitVec.ofNat 32 j) ≤ a ↔ j ≤ n) : search16 a = BitVec.ofNat 32 n := by
  have s (k b b' : ℕ) (hk : b + k ≤ 32640) (hb : (if b + k ≤ n then b + k else b) = b') :
      step val16 (BitVec.ofNat 32 k) a (BitVec.ofNat 32 b) = BitVec.ofNat 32 b' := by rw [step_eq hn k b hk, hb]
  unfold search16
  rw [s 16384 0 (n / 16384 * 16384) (by omega) (by split <;> omega),
    s 8192 _ (n / 8192 * 8192) (by omega) (by split <;> omega), s 4096 _ (n / 4096 * 4096) (by omega) (by split <;> omega),
    s 2048 _ (n / 2048 * 2048) (by omega) (by split <;> omega), s 1024 _ (n / 1024 * 1024) (by omega) (by split <;> omega),
    s 512 _ (n / 512 * 512) (by omega) (by split <;> omega), s 256 _ (n / 256 * 256) (by omega) (by split <;> omega),
    s 128 _ (n / 128 * 128) (by omega) (by split <;> omega), s 64 _ (n / 64 * 64) (by omega) (by split <;> omega),
    s 32 _ (n / 32 * 32) (by omega) (by split <;> omega), s 16 _ (n / 16 * 16) (by omega) (by split <;> omega),
    s 8 _ (n / 8 * 8) (by omega) (by split <;> omega), s 4 _ (n / 4 * 4) (by omega) (by split <;> omega),
    s 2 _ (n / 2 * 2) (by omega) (by split <;> omega), s 1 _ n (by omega) (by split <;> omega)]

/-! ### What the codes are worth -/

/-- A word's exponent field, fraction and sign, of a number below 2^31. -/
theorem parts (n : ℕ) (h : n < 2 ^ 31) : ((BitVec.ofNat 32 n).extractLsb' 23 8).toNat = n / 2 ^ 23
    ∧ ((BitVec.ofNat 32 n).extractLsb' 0 23).toNat = n % 2 ^ 23 ∧ (BitVec.ofNat 32 n).extractLsb' 31 1 = 0#1 := by
  refine ⟨?_, ?_, ?_⟩
  · simp only [BitVec.extractLsb'_toNat, BitVec.toNat_ofNat, Nat.shiftRight_eq_div_pow]; omega
  · simp only [BitVec.extractLsb'_toNat, BitVec.toNat_ofNat, Nat.shiftRight_eq_div_pow]; omega
  · apply BitVec.eq_of_toNat_eq
    simp only [BitVec.extractLsb'_toNat, BitVec.toNat_ofNat, Nat.shiftRight_eq_div_pow]; omega

/-- The float of a word below infinity's, by its exponent field and fraction. -/
theorem ofBits_nat (n : ℕ) (h : n < 255 * 2 ^ 23) : Ideal.ofBits .f32 (BitVec.ofNat 32 n)
    = (((units (2 ^ 23) n : ℝ) * (2 : ℝ) ^ (-149 : ℤ) : ℝ) : EReal) := by
  obtain ⟨h1, h2, h3⟩ := parts n (by omega)
  simp only [Ideal.ofBits, Ideal.ieee, h1, h2, h3]
  rw [if_neg (by omega)]
  unfold units
  by_cases c : n < 2 ^ 23
  · rw [if_pos (by omega), if_pos c, Nat.mod_eq_of_lt c]
    norm_num
  · rw [if_neg (by omega), if_neg c]
    obtain ⟨d, hd⟩ : ∃ d, n / 2 ^ 23 = d + 1 := ⟨n / 2 ^ 23 - 1, by omega⟩
    rw [hd]
    simp only [Nat.add_sub_cancel, EReal.coe_eq_coe_iff]
    rw [show ((d + 1 : ℕ) : ℤ) - (2 ^ (8 - 1) - 1) - (23 : ℕ) = (d : ℤ) + (-149) by push_cast; ring, zpow_add₀ two_ne_zero, zpow_natCast]
    push_cast
    simp
    ring

/-- Shifting a code's fraction up shifts its value. -/
theorem units_scale (P q j : ℕ) (hP : 0 < P) : units (P * 2 ^ q) (j * 2 ^ q) = units P j * 2 ^ q := by
  have hq : 0 < 2 ^ q := Nat.two_pow_pos q
  unfold units
  by_cases c : j < P
  · rw [if_pos c, if_pos ((Nat.mul_lt_mul_right hq).2 c)]
  · rw [if_neg c, if_neg (fun h => c ((Nat.mul_lt_mul_right hq).1 h)), Nat.mul_div_mul_right _ _ hq, Nat.mul_mod_mul_right]
    ring

/-- A code of eight exponent and seven fraction bits, below infinity's. -/
theorem val16_eq (j : ℕ) (h : j < 32640) : val16 (BitVec.ofNat 32 j) = (((units 128 j : ℝ) * (2 : ℝ) ^ (-133 : ℤ) : ℝ) : EReal) := by
  have e : IntOp.shli .vector (BitVec.ofNat 32 j) 16#32 = BitVec.ofNat 32 (j * 2 ^ 16) := by
    apply BitVec.eq_of_toNat_eq
    simp [IntOp.shli, Nat.shiftLeft_eq]
  unfold val16
  rw [e, ofBits_nat _ (by omega), show (2 : ℕ) ^ 23 = 128 * 2 ^ 16 by norm_num, units_scale _ _ _ (by omega), EReal.coe_eq_coe_iff,
    show (-133 : ℤ) = 16 + (-149) by norm_num, zpow_add₀ two_ne_zero]
  push_cast
  norm_num
  ring

/-- Infinity's code. -/
theorem val16_top : val16 (BitVec.ofNat 32 32640) = ⊤ := by
  have e : IntOp.shli .vector (BitVec.ofNat 32 32640) 16#32 = 0x7F800000#32 := by decide +kernel
  unfold val16
  rw [e]
  simp [Ideal.ofBits, Ideal.ieee]

/-- A small word as a signed number. -/
theorem toInt_small (j : ℕ) (h : j ≤ 127) : (BitVec.ofNat 32 j).toInt = j := by
  rw [BitVec.toInt_eq_toNat_of_lt (by rw [BitVec.toNat_ofNat]; omega), BitVec.toNat_ofNat]
  omega

/-- The comparison of a small word with 8. -/
theorem slt_small (j : ℕ) (h : j ≤ 127) : IntOp.cmpi .slt (BitVec.ofNat 32 j) 8#32 = BitVec.ofBool (decide (j < 8)) := by
  show BitVec.ofBool ((BitVec.ofNat 32 j).slt 8#32) = _
  rw [BitVec.slt, toInt_small j h, show (8#32).toInt = 8 from rfl]
  congr 1
  exact decide_eq_decide.2 (by omega)

/-- A code of four exponent and three fraction bits, in a float's place. -/
theorem place8 (j : ℕ) : IntOp.shli .vector (IntOp.addi (BitVec.ofNat 32 j) 960#32) 20#32 = BitVec.ofNat 32 ((j + 960) * 2 ^ 20) := by
  have e : IntOp.addi (BitVec.ofNat 32 j) 960#32 = BitVec.ofNat 32 (j + 960) := by simp [IntOp.addi, BitVec.ofNat_add]
  rw [e]
  generalize j + 960 = i
  apply BitVec.eq_of_toNat_eq
  simp [IntOp.shli, Nat.shiftLeft_eq]

/-- Moving a code's exponent by 120. -/
theorem units_move (j : ℕ) (h : ¬ j < 8) : units 8 (j + 960) = units 8 j * 2 ^ 120 := by
  unfold units
  rw [if_neg (by omega), if_neg h, show (j + 960) % 8 = j % 8 by omega, show (j + 960) / 8 - 1 = (j / 8 - 1) + 120 by omega, pow_add, mul_assoc]

/-- A choice by a decision that holds. -/
theorem select_true {α : Type} (a b : α) : Scalar.select (BitVec.ofBool true) a b = a := rfl

/-- A choice by a decision that does not. -/
theorem select_false {α : Type} (a b : α) : Scalar.select (BitVec.ofBool false) a b = b := rfl

/-- Powers of two gathered. -/
theorem gather (u a b : ℕ) (z : ℤ) : ((u * 2 ^ a * 2 ^ b : ℕ) : ℝ) * (2 : ℝ) ^ z = (u : ℝ) * (2 : ℝ) ^ ((a : ℤ) + b + z) := by
  rw [zpow_add₀ two_ne_zero, zpow_add₀ two_ne_zero, zpow_natCast, zpow_natCast, Nat.cast_mul, Nat.cast_mul, Nat.cast_pow, Nat.cast_pow, Nat.cast_ofNat,
    mul_assoc, mul_assoc, mul_assoc]

/-- The smallest code's value. -/
theorem cUnit8 : Ideal.ofBits .f32 0x3B000000#32 = (((2 : ℝ) ^ (-9 : ℤ) : ℝ) : EReal) := by
  simp [Ideal.ofBits, Ideal.ieee]; rw [← EReal.coe_mul]; norm_num

/-- A code of four exponent and three fraction bits, read as a float's bits. -/
theorem val8_hi (j : ℕ) (h : j ≤ 127) (c : ¬ j < 8) : Ideal.ofBits .f32 (BitVec.ofNat 32 ((j + 960) * 2 ^ 20))
    = (((units 8 j : ℝ) * (2 : ℝ) ^ (-9 : ℤ) : ℝ) : EReal) := by
  have e : units (2 ^ 23) ((j + 960) * 2 ^ 20) = units 8 j * 2 ^ 120 * 2 ^ 20 := by
    rw [← units_move j c, show (2 : ℕ) ^ 23 = 8 * 2 ^ 20 by norm_num, units_scale 8 20 (j + 960) (by omega)]
  have z : ((120 : ℕ) : ℤ) + (20 : ℕ) + (-149) = -9 := by norm_num
  rw [ofBits_nat _ (by omega), e, gather, z]

/-- A code of four exponent and three fraction bits. -/
theorem val8_eq (j : ℕ) (h : j ≤ 127) : val8 (BitVec.ofNat 32 j) = (((units 8 j : ℝ) * (2 : ℝ) ^ (-9 : ℤ) : ℝ) : EReal) := by
  unfold val8
  rw [place8, cUnit8, toInt_small j h, slt_small j h]
  by_cases c : j < 8
  · have u : units 8 j = j := if_pos c
    rw [u, decide_eq_true c, select_true, ← EReal.coe_mul, Int.cast_natCast]
  · rw [decide_eq_false c, select_false, val8_hi j h c]

/-! ### The two sides' bits -/

/-- The sign as the kernel adds it: where the number, or its reciprocal, is below zero. -/
def signed (x : EReal) (m s : BitVec 32) : BitVec 32 :=
  Scalar.select (IntOp.ori (Ideal.cmp .olt x (Ideal.ofBits .f32 0x00000000#32))
    (Ideal.cmp .olt (Ideal.div (Ideal.ofBits .f32 0x3F800000#32) x) (Ideal.ofBits .f32 0x00000000#32))) (IntOp.addi m s) m

/-- The kernel's bits of a code of four exponent and three fraction bits. -/
def kbits8 (x : EReal) : BitVec 32 := signed x (search8 (max x (-x))) 128#32

/-- The kernel's bits of a code of eight exponent and seven fraction bits. -/
def kbits16 (x : EReal) : BitVec 32 :=
  signed x (Scalar.select (Ideal.cmp .olt (max x (-x)) (Ideal.ofBits .f32 0x7F800000#32))
    (Scalar.select (Ideal.cmp .oeq (max x (-x)) (Ideal.ofBits .f32 0x00000000#32)) 0#32 (search16 (max x (-x))))
    (Scalar.select (Ideal.cmp .oeq (max x (-x)) (Ideal.ofBits .f32 0x7F800000#32)) 32640#32 32704#32)) 32768#32

/-- The reference's bits. -/
def rbits (lo hi lo' P p lim : EReal) (inf sgn : BitVec 32) (x : EReal) : BitVec 32 :=
  Scalar.select (Ideal.cmp .olt x (Ideal.ofBits .f32 0x00000000#32))
    (IntOp.addi (Scalar.select (Ideal.cmp .oeq (max x (-x)) (Ideal.ofBits .f32 0x7F800000#32)) inf (magnitude lo hi lo' P p lim (max x (-x)))) sgn)
    (Scalar.select (Ideal.cmp .oeq (max x (-x)) (Ideal.ofBits .f32 0x7F800000#32)) inf (magnitude lo hi lo' P p lim (max x (-x))))

/-- The reference's bits of a code of four exponent and three fraction bits. -/
def rbits8 (x : EReal) : BitVec 32 :=
  rbits (((4294967290#32 : BitVec 32).toInt : ℝ) : EReal) (((8#32 : BitVec 32).toInt : ℝ) : EReal) (Ideal.ofBits .f32 0xC0C00000#32)
    (Ideal.ofBits .f32 0x41000000#32) (Ideal.ofBits .f32 0x40400000#32) (Ideal.ofBits .f32 0x42FC0000#32) 127#32 128#32 x

/-- The reference's bits of a code of eight exponent and seven fraction bits. -/
def rbits16 (x : EReal) : BitVec 32 :=
  rbits (((4294967170#32 : BitVec 32).toInt : ℝ) : EReal) (((127#32 : BitVec 32).toInt : ℝ) : EReal) (Ideal.ofBits .f32 0xC2FC0000#32)
    (Ideal.ofBits .f32 0x43000000#32) (Ideal.ofBits .f32 0x40E00000#32) (Ideal.ofBits .f32 0x46FEFE00#32) 32640#32 32768#32 x

/-- The constant 0. -/
theorem cZero : Ideal.ofBits .f32 0x00000000#32 = 0 := by simp [Ideal.ofBits, Ideal.ieee]

/-- The constant infinity. -/
theorem cTop : Ideal.ofBits .f32 0x7F800000#32 = ⊤ := by simp [Ideal.ofBits, Ideal.ieee]

/-- The constant 1. -/
theorem cOne : Ideal.ofBits .f32 0x3F800000#32 = ((1 : ℝ) : EReal) := by
  simp [Ideal.ofBits, Ideal.ieee]; rw [← EReal.coe_mul]; norm_num

/-- Over the extended reals the reciprocal of zero is not below zero, so the sign is the number's. -/
theorem sign_eq (x : EReal) : IntOp.ori (Ideal.cmp .olt x (Ideal.ofBits .f32 0x00000000#32))
    (Ideal.cmp .olt (Ideal.div (Ideal.ofBits .f32 0x3F800000#32) x) (Ideal.ofBits .f32 0x00000000#32))
    = Ideal.cmp .olt x (Ideal.ofBits .f32 0x00000000#32) := by
  rw [cZero, cOne]
  by_cases h : x < 0
  · simp only [Ideal.cmp, h, decide_true, IntOp.ori]
    generalize decide (Ideal.div ((1 : ℝ) : EReal) x < 0) = b
    cases b <;> rfl
  · have : ¬ Ideal.div ((1 : ℝ) : EReal) x < 0 := by
      rw [not_lt] at h ⊢
      unfold Ideal.div
      split_ifs
      · exact le_top
      · rename_i a b; exact absurd (by exact_mod_cast one_pos) b
      · exact mul_nonneg (by exact_mod_cast zero_le_one) (EReal.inv_nonneg_of_nonneg h)
    simp only [Ideal.cmp, h, this, decide_false, IntOp.ori]
    rfl

/-- The magnitude of a number. -/
theorem abs_coe (r : ℝ) : max (r : EReal) (-(r : EReal)) = ((|r| : ℝ) : EReal) := by
  rw [← EReal.coe_neg, ← EReal.coe_strictMono.monotone.map_max]
  rfl

/-- The units of a code that is not the first. -/
theorem units_nonneg (P j : ℕ) : 0 ≤ units P j := Nat.zero_le _

/-- For a number in the range of the format of four exponent and three fraction bits the two sides' bits agree. -/
theorem bits8 {r : ℝ} (h : |r| ≤ 448) : kbits8 (r : EReal) = rbits8 (r : EReal) := by
  obtain ⟨n, e, hn⟩ := magnitude_spec (abs_nonneg r) (-6) 14 3 126 (by norm_num)
  have hn126 : n ≤ 126 := by
    have := (hn 127 (by norm_num)).not
    rw [not_le, not_le] at this
    have h2 : |r| < ((units (2 ^ 3) 127 : ℕ) : ℝ) * (2 : ℝ) ^ ((-6 : ℤ) - (3 : ℕ)) := by
      refine lt_of_le_of_lt h ?_
      rw [show units (2 ^ 3) 127 = 245760 by decide +kernel]
      norm_num
    have := this.1 h2
    omega
  have hs : search8 ((|r| : ℝ) : EReal) = BitVec.ofNat 32 n := by
    refine search8_eq (by omega) fun j hj => ?_
    rw [val8_eq j hj, EReal.coe_le_coe_iff]
    exact hn j (by norm_num; omega)
  have hc1 : (((4294967290#32 : BitVec 32).toInt : ℝ) : EReal) = (((-6 : ℤ) : ℝ) : EReal) := by
    rw [show (4294967290#32 : BitVec 32).toInt = -6 by decide]
  have hc2 : (((8#32 : BitVec 32).toInt : ℝ) : EReal) = ((((-6 : ℤ) : ℝ) + (14 : ℕ) : ℝ) : EReal) := by
    rw [show (8#32 : BitVec 32).toInt = 8 by decide]; norm_num
  have hc3 : Ideal.ofBits .f32 0xC0C00000#32 = (((-6 : ℤ) : ℝ) : EReal) := by
    simp [Ideal.ofBits, Ideal.ieee]; rw [← EReal.coe_mul]; norm_num
  have hc4 : Ideal.ofBits .f32 0x41000000#32 = (((2 ^ 3 : ℕ) : ℝ) : EReal) := by
    simp [Ideal.ofBits, Ideal.ieee]; rw [← EReal.coe_mul]; norm_num
  have hc5 : Ideal.ofBits .f32 0x40400000#32 = (((3 : ℕ) : ℝ) : EReal) := by
    simp [Ideal.ofBits, Ideal.ieee]; rw [← EReal.coe_mul]; norm_num
  have hc6 : Ideal.ofBits .f32 0x42FC0000#32 = (((126 : ℕ) : ℝ) : EReal) := by
    simp [Ideal.ofBits, Ideal.ieee]; rw [← EReal.coe_mul]; norm_num
  unfold kbits8 signed rbits8 rbits
  rw [sign_eq, abs_coe, hs, hc1, hc2, hc3, hc4, hc5, hc6, e, min_eq_left hn126, cTop]
  simp [Ideal.cmp, Scalar.select]

/-- For every number the two sides' bits of eight exponent and seven fraction bits agree, and fit in two bytes. -/
theorem bits16 (x : EReal) : kbits16 x = rbits16 x ∧ ∃ n < 65536, kbits16 x = BitVec.ofNat 32 n := by
  have hc1 : (((4294967170#32 : BitVec 32).toInt : ℝ) : EReal) = (((-126 : ℤ) : ℝ) : EReal) := by
    rw [show (4294967170#32 : BitVec 32).toInt = -126 by decide]
  have hc2 : (((127#32 : BitVec 32).toInt : ℝ) : EReal) = ((((-126 : ℤ) : ℝ) + (253 : ℕ) : ℝ) : EReal) := by
    rw [show (127#32 : BitVec 32).toInt = 127 by decide]; norm_num
  have hc3 : Ideal.ofBits .f32 0xC2FC0000#32 = (((-126 : ℤ) : ℝ) : EReal) := by
    rw [Spec.cMinExp]; norm_num
  have hc4 : Ideal.ofBits .f32 0x43000000#32 = (((2 ^ 7 : ℕ) : ℝ) : EReal) := by
    simp [Ideal.ofBits, Ideal.ieee]; rw [← EReal.coe_mul]; norm_num
  have hc5 : Ideal.ofBits .f32 0x40E00000#32 = (((7 : ℕ) : ℝ) : EReal) := by
    simp [Ideal.ofBits, Ideal.ieee]; rw [← EReal.coe_mul]; norm_num
  have hc6 : Ideal.ofBits .f32 0x46FEFE00#32 = (((32639 : ℕ) : ℝ) : EReal) := by
    simp [Ideal.ofBits, Ideal.ieee]; rw [← EReal.coe_mul]; norm_num
  have key : ∃ n ≤ 32640, Scalar.select (Ideal.cmp .olt (max x (-x)) ⊤) (Scalar.select (Ideal.cmp .oeq (max x (-x)) 0) 0#32 (search16 (max x (-x))))
      (Scalar.select (Ideal.cmp .oeq (max x (-x)) ⊤) 32640#32 32704#32) = BitVec.ofNat 32 n
      ∧ Scalar.select (Ideal.cmp .oeq (max x (-x)) ⊤) 32640#32 (magnitude (((-126 : ℤ) : ℝ) : EReal) ((((-126 : ℤ) : ℝ) + (253 : ℕ) : ℝ) : EReal)
        (((-126 : ℤ) : ℝ) : EReal) (((2 ^ 7 : ℕ) : ℝ) : EReal) (((7 : ℕ) : ℝ) : EReal) (((32639 : ℕ) : ℝ) : EReal) (max x (-x))) = BitVec.ofNat 32 n := by
    induction x using EReal.rec with
    | bot => exact ⟨32640, le_rfl, by simp [Ideal.cmp, Scalar.select], by simp [Ideal.cmp, Scalar.select]⟩
    | top => exact ⟨32640, le_rfl, by simp [Ideal.cmp, Scalar.select], by simp [Ideal.cmp, Scalar.select]⟩
    | coe r =>
      obtain ⟨n, e, hn⟩ := magnitude_spec (abs_nonneg r) (-126) 253 7 32639 (by norm_num)
      have hs : search16 ((|r| : ℝ) : EReal) = BitVec.ofNat 32 (min n 32639) := by
        refine search16_eq (by omega) fun j hj => ?_
        rcases Nat.lt_or_ge j 32640 with hl | hg
        · rw [val16_eq j hl, EReal.coe_le_coe_iff]
          refine (hn j (by norm_num; omega)).trans ?_
          omega
        · obtain rfl : j = 32640 := by omega
          rw [val16_top]
          simp
      have hz : Scalar.select (Ideal.cmp .oeq ((|r| : ℝ) : EReal) 0) 0#32 (search16 ((|r| : ℝ) : EReal)) = search16 ((|r| : ℝ) : EReal) := by
        by_cases c : |r| = 0
        · have h1 := hn 1 (by norm_num)
          have hn0 : n = 0 := by
            by_contra h
            have h2 := h1.2 (by omega)
            rw [c] at h2
            have h3 : (0 : ℝ) < (units (2 ^ 7) 1 : ℝ) * (2 : ℝ) ^ ((-126 : ℤ) - (7 : ℕ)) := by
              simp only [units]
              norm_num
            linarith
          rw [hs, hn0]
          unfold Scalar.select
          split <;> rfl
        · have h0 : ¬ ((|r| : ℝ) : EReal) = 0 := fun h => c (EReal.coe_eq_zero.1 h)
          simp only [Ideal.cmp, Scalar.select, h0, decide_false]
          rfl
      refine ⟨min n 32639, by omega, ?_, ?_⟩
      · rw [abs_coe, hz, hs]
        simp [Ideal.cmp, Scalar.select]
      · rw [abs_coe, e]
        simp [Ideal.cmp, Scalar.select]
  obtain ⟨n, hle, k1, k2⟩ := key
  have hc0 : Ideal.ofBits .f32 0x00000000#32 = 0 := by simp [Ideal.ofBits, Ideal.ieee]
  unfold kbits16 signed rbits16 rbits
  rw [sign_eq, hc0, hc1, hc2, hc3, hc4, hc5, hc6, cTop, k1, k2]
  refine ⟨rfl, ?_⟩
  unfold Scalar.select
  split
  · exact ⟨n + 32768, by omega, by simp [IntOp.addi, BitVec.ofNat_add]⟩
  · exact ⟨n, by omega, rfl⟩

/-! ### Scales -/

/-- The bits of a scale as the kernel makes them. -/
def kscale (a : EReal) : BitVec 32 := IntOp.shli .vector (IntOp.addi 127#32 (Spec.expK a)) 23#32

/-- The bits of a scale as the reference makes them. -/
def rscale (e : EReal) : BitVec 32 := IntOp.shli .vector (Ideal.fptosi 32 (e + Ideal.ofBits .f32 0x42FE0000#32)) 23#32

/-- Below 2^126 the two agree. -/
theorem scale_bits {a : EReal} (h0 : 0 ≤ a) (h1 : a < ((2 ^ 126 : ℝ) : EReal)) : kscale a = rscale (Spec.expo a) := by
  have hc : Ideal.ofBits .f32 0x42FE0000#32 = ((127 : ℝ) : EReal) := by
    simp [Ideal.ofBits, Ideal.ieee]; rw [← EReal.coe_mul]; norm_num
  unfold kscale rscale
  refine congrArg (fun w => IntOp.shli .vector w 23#32) ?_
  induction a using EReal.rec with
  | bot => simp at h0
  | top => simp at h1
  | coe r =>
    rcases (EReal.coe_nonneg.1 h0).eq_or_lt with rfl | hp
    · have e : Spec.expo ((0 : ℝ) : EReal) = ((0 : ℝ) : EReal) := by simp [Spec.expo]
      have := fptosi_nat 127 (by norm_num)
      rw [e, hc, ← EReal.coe_add, show (0 : ℝ) + 127 = ((127 : ℕ) : ℝ) by norm_num, this]
      simp [Spec.expK, Ideal.cmp, Scalar.select, IntOp.addi]
    · obtain ⟨n, hn, e1, e2⟩ := Spec.exponents hp (EReal.coe_lt_coe_iff.1 h1)
      have : IntOp.addi 127#32 (Spec.expK (r : EReal)) = BitVec.ofNat 32 (n + 1) := by
        rw [e1]; simp only [IntOp.addi]
        bv_omega
      rw [this, e2, hc, ← EReal.coe_add, show (n : ℝ) - 126 + 127 = ((n + 1 : ℕ) : ℝ) by push_cast; ring, fptosi_nat _ (by omega)]

/-! ### Bytes -/

/-- Byte `k` of a word. -/
def byte (k : ℕ) (w : BitVec 32) : BitVec 8 := (w >>> (8 * k)).setWidth 8

/-- The byte the reference takes out of a word. -/
theorem byte_eq (k : ℕ) (hk : k < 4) (w : BitVec 32) :
    (IntOp.andi (IntOp.shrui .vector w (IntOp.muli 8#32 (BitVec.ofNat 32 k))) 255#32).setWidth 8 = byte k w := by
  have e : IntOp.shrui .vector w (IntOp.muli 8#32 (BitVec.ofNat 32 k)) = w >>> (8 * k) := by
    match k, hk with
    | 0, _ | 1, _ | 2, _ | 3, _ => rfl
  rw [e]
  unfold byte IntOp.andi
  generalize w >>> (8 * k) = v
  apply BitVec.eq_of_toNat_eq
  simp only [BitVec.toNat_setWidth, BitVec.toNat_and, BitVec.toNat_ofNat]
  rw [show 255 % 2 ^ 32 = 2 ^ 8 - 1 by norm_num, Nat.and_two_pow_sub_one_eq_mod]
  omega

/-- The bytes of a word of two codes of two bytes. -/
theorem byte_pair (k : ℕ) (hk : k < 4) (a b : ℕ) (ha : a < 65536) (hb : b < 65536) :
    byte k (IntOp.ori (BitVec.ofNat 32 a) (IntOp.shli .vector (BitVec.ofNat 32 b) 16#32))
      = byte (k % 2) (BitVec.ofNat 32 (if k / 2 = 0 then a else b)) := by
  have e : IntOp.ori (BitVec.ofNat 32 a) (IntOp.shli .vector (BitVec.ofNat 32 b) 16#32) = BitVec.ofNat 32 (b * 2 ^ 16 + a) := by
    have e1 : IntOp.shli .vector (BitVec.ofNat 32 b) 16#32 = BitVec.ofNat 32 (b * 2 ^ 16) := by
      apply BitVec.eq_of_toNat_eq
      simp [IntOp.shli, Nat.shiftLeft_eq]
    rw [e1, IntOp.ori]
    apply BitVec.eq_of_toNat_eq
    rw [BitVec.toNat_or, BitVec.toNat_ofNat, BitVec.toNat_ofNat, BitVec.toNat_ofNat, Nat.mod_eq_of_lt (by omega), Nat.mod_eq_of_lt (by omega),
      Nat.mod_eq_of_lt (by omega), Nat.or_comm, Nat.mul_comm, ← Nat.two_pow_add_eq_or_of_lt (by omega)]
  rw [e]
  unfold byte
  apply BitVec.eq_of_toNat_eq
  simp only [BitVec.toNat_setWidth, BitVec.toNat_ushiftRight, BitVec.toNat_ofNat, Nat.shiftRight_eq_div_pow]
  match k, hk with
  | 0, _ | 1, _ | 2, _ | 3, _ => norm_num; omega

end Cert.Codes

end
-- ==== Proof.Stages.lean ====
/-
  The stages of the kernel's body as functions of the scaled weights `W`, the scaled activations `H` and the
  layer-norm columns `Γ`, first on vectors as the body spells them, then at an index.
-/
module

public import proofs.«01_k».proof.Proof.Gen.KernelIdeal.Value
public import proofs.«01_k».proof.Proof.Spec
public import proofs.«01_k».proof.Proof.Codes
public import Idealize.ShloMosaic.Lib.BitcastPair
public import Idealize.ShloMosaic.Lib.Pipeline.ValueKit
public import Idealize.ShloMosaic.Lib.Pointwise

@[expose] public section

set_option maxRecDepth 16384

noncomputable section

namespace Cert.Stages

open Cert.KernelIdeal Cert.KernelIdeal.Gen Idealize.ShloMosaic Idealize.ShloMosaic.TcCoe Idealize.SL.Sem

/-! ### The body's stages on vectors -/

/-- One step of the exponent search on a row of group maxima. -/
def vfld (k : BitVec 32) (a : FVec Ideal S1x512 .f32) (v : IVec S1x512 32) : IVec S1x512 32 :=
  select (cmpf .olt a (bitcastToFloat .f32 (shli (addi v (broadcast S1x512 k)) (broadcast S1x512 23#32)))) v
    (addi v (broadcast S1x512 k))

/-- The exponents of a row of group maxima. -/
def vexp (a : FVec Ideal S1x512 .f32) : IVec S1x512 32 :=
  select (cmpf .oeq a (broadcast S1x512 (Scalar.ofBits (F := Ideal) .f32 0x00000000#32))) (broadcast S1x512 0#32)
    (subi (vfld 1#32 a (vfld 2#32 a (vfld 4#32 a (vfld 8#32 a (vfld 16#32 a (vfld 32#32 a (vfld 64#32 a
      (vfld 128#32 a (broadcast S1x512 0#32))))))))) (broadcast S1x512 126#32))

/-- The scales of a row of group maxima. -/
def vscale (a : FVec Ideal S1x512 .f32) : FVec Ideal S1x512 .f32 :=
  bitcastToFloat .f32 (shli (addi (broadcast S1x512 127#32) (vexp a)) (broadcast S1x512 23#32))

/-- The inverse scales of a row of group maxima. -/
def vinv (a : FVec Ideal S1x512 .f32) : FVec Ideal S1x512 .f32 :=
  bitcastToFloat .f32 (shli (subi (broadcast S1x512 127#32) (vexp a)) (broadcast S1x512 23#32))

/-- The layer-normed latents of the 128 features from `o` on, from the latents `C`, the row's inverse norm `R` and the
    layer-norm columns `g` of those features. -/
def vy (o : ℕ) (h : S1024x512.Slices ![o, 0] S128x512) (C : FVec Ideal S1024x512 .f32) (R : FVec Ideal S1x512 .f32)
    (g : Vec Ideal S128x128 .f32) : FVec Ideal S128x512 .f32 :=
  mulf (mulf (extractStridedSlice S128x512 ![o, 0] C h) (broadcastTo S128x512 R broadcasts_S1x512_S128x512))
    (concatenate S128x512 1 [⟨S128x128, g⟩, ⟨S128x128, g⟩, ⟨S128x128, g⟩, ⟨S128x128, g⟩]
      concatenates_S128x128_S128x128_S128x128_S128x128_S128x512_d1)

/-- The greatest magnitude of each group, over 448. -/
def va (y : FVec Ideal S128x512 .f32) : FVec Ideal S1x512 .f32 :=
  mulf (shapeCast S1x512 (multiReduction .maximumf [0] S512 (absf y) 0xFF800000#32 reduces_S128x512_S512 (.inl rfl) rfl)
    shapeCasts_S512_S1x512) (broadcast S1x512 (Scalar.ofBits (F := Ideal) .f32 0x3B124925#32))

/-- The codes of a group, before they are transposed. -/
def vq (y : FVec Ideal S128x512 .f32) : FVec Ideal S128x512 .f32 :=
  extf .f32 (truncf .fp8e4m3
    (minimumf (broadcast S128x512 (Scalar.ofBits (F := Ideal) .f32 0x43E00000#32))
      (maximumf (broadcast S128x512 (Scalar.ofBits (F := Ideal) .f32 0xC3E00000#32))
        (mulf y (broadcastTo S128x512 (vinv (va y)) broadcasts_S1x512_S128x512)))) bitsLt_fp8e4m3_f32)
      bitsLt_fp8e4m3_f32

/-- The codes of a group. -/
def vcodes (y : FVec Ideal S128x512 .f32) : FVec Ideal S1x512x128 .fp8e4m3 :=
  shapeCast S1x512x128 (truncf .fp8e4m3 (transpose S512x128 [1, 0] (vq y) transposes_S128x512_p1_0_S512x128)
    bitsLt_fp8e4m3_f32) shapeCasts_S512x128_S1x512x128

/-- Magnitude's bits `m` with the sign's bit `k`. -/
def vsign {s : Shape} (k : BitVec 32) (v : FVec Ideal s .f32) (m : IVec s 32) : IVec s 32 :=
  select (ori (cmpf .olt v (broadcast s (Scalar.ofBits (F := Ideal) .f32 0x00000000#32)))
    (cmpf .olt (divf (broadcast s (Scalar.ofBits (F := Ideal) .f32 0x3F800000#32)) v)
      (broadcast s (Scalar.ofBits (F := Ideal) .f32 0x00000000#32)))) (addi m (broadcast s k)) m

/-- One step of the search for a code of four exponent and three fraction bits. -/
def vstep8 {s : Shape} (k : BitVec 32) (a : FVec Ideal s .f32) (v : IVec s 32) : IVec s 32 :=
  select (cmpf .olt a (select (cmpi .slt (addi v (broadcast s k)) (broadcast s 8#32))
    (mulf (sitofp .f32 (addi v (broadcast s k))) (broadcast s (Scalar.ofBits (F := Ideal) .f32 0x3B000000#32)))
    (bitcastToFloat .f32 (shli (addi (addi v (broadcast s k)) (broadcast s 960#32)) (broadcast s 20#32))))) v
    (addi v (broadcast s k))

/-- One step of the search for a code of eight exponent and seven fraction bits. -/
def vstep16 {s : Shape} (k : BitVec 32) (a : FVec Ideal s .f32) (v : IVec s 32) : IVec s 32 :=
  select (cmpf .olt a (bitcastToFloat .f32 (shli (addi v (broadcast s k)) (broadcast s 16#32)))) v (addi v (broadcast s k))

/-- The bits of codes of four exponent and three fraction bits. -/
def vbits8 {s : Shape} (v : FVec Ideal s .f32) : IVec s 32 :=
  vsign 128#32 v (vstep8 1#32 (absf v) (vstep8 2#32 (absf v) (vstep8 4#32 (absf v) (vstep8 8#32 (absf v) (vstep8 16#32 (absf v)
    (vstep8 32#32 (absf v) (vstep8 64#32 (absf v) (broadcast s 0#32))))))))

/-- The search for codes of eight exponent and seven fraction bits. -/
def vsearch16 {s : Shape} (a : FVec Ideal s .f32) : IVec s 32 :=
  vstep16 1#32 a (vstep16 2#32 a (vstep16 4#32 a (vstep16 8#32 a (vstep16 16#32 a (vstep16 32#32 a (vstep16 64#32 a
    (vstep16 128#32 a (vstep16 256#32 a (vstep16 512#32 a (vstep16 1024#32 a (vstep16 2048#32 a (vstep16 4096#32 a
      (vstep16 8192#32 a (vstep16 16384#32 a (broadcast s 0#32)))))))))))))))

/-- The bits of codes of eight exponent and seven fraction bits. -/
def vbits16 {s : Shape} (v : FVec Ideal s .f32) : IVec s 32 :=
  vsign 32768#32 v (select (cmpf .olt (absf v) (broadcast s (Scalar.ofBits (F := Ideal) .f32 0x7F800000#32)))
    (select (cmpf .oeq (absf v) (broadcast s (Scalar.ofBits (F := Ideal) .f32 0x00000000#32))) (broadcast s 0#32) (vsearch16 (absf v)))
    (select (cmpf .oeq (absf v) (broadcast s (Scalar.ofBits (F := Ideal) .f32 0x7F800000#32))) (broadcast s 32640#32) (broadcast s 32704#32)))

/-- The bytes of a group's codes. -/
def vrec8 (y : FVec Ideal S128x512 .f32) : IVec S1x128x512 8 :=
  shapeCast S1x128x512 (trunci 8 (vbits8 (vq y)) natLt_8_32) shapeCasts_S128x512_S1x128x512

/-- The bits of a row of scales. -/
def vword (a : FVec Ideal S1x512 .f32) : IVec S1x512 32 :=
  shli (addi (broadcast S1x512 127#32) (vexp a)) (broadcast S1x512 23#32)

/-- The even coordinates of a tile of the rotated keys: 128 positions from `o` on. -/
def vr0 (o : BitVec 32) (P : IVec S32x128 32) (f : FVec Ideal S32x128 .f32) (s : Vec Ideal S64x128 .f32) : FVec Ideal S32x128 .f32 :=
  subf (mulf (k0_pay598 s) (cos (mulf (sitofp .f32 (addi P (broadcast S32x128 o))) f)))
    (mulf (k0_pay599 s) (sin (mulf (sitofp .f32 (addi P (broadcast S32x128 o))) f)))

/-- The odd coordinates of a tile of the rotated keys. -/
def vr1 (o : BitVec 32) (P : IVec S32x128 32) (f : FVec Ideal S32x128 .f32) (s : Vec Ideal S64x128 .f32) : FVec Ideal S32x128 .f32 :=
  addf (mulf (k0_pay598 s) (sin (mulf (sitofp .f32 (addi P (broadcast S32x128 o))) f)))
    (mulf (k0_pay599 s) (cos (mulf (sitofp .f32 (addi P (broadcast S32x128 o))) f)))

/-- A tile of the rotated keys. -/
def vrope (o : BitVec 32) (P : IVec S32x128 32) (f : FVec Ideal S32x128 .f32) (s : Vec Ideal S64x128 .f32) :
    FVec Ideal S1x64x128 .bf16 :=
  shapeCast S1x64x128 (interleaveRows S64x128 (truncf .bf16 (extf .f32 (truncf .bf16 (vr0 o P f s) bitsLt_bf16_f32) bitsLt_bf16_f32))
    (truncf .bf16 (extf .f32 (truncf .bf16 (vr1 o P f s) bitsLt_bf16_f32) bitsLt_bf16_f32)) bitcasts_S64x128_w16_S32x128_w32)
    shapeCasts_S64x128_S1x64x128

/-- The bytes of a tile of the rotated keys. -/
def vrecR (o : BitVec 32) (P : IVec S32x128 32) (f : FVec Ideal S32x128 .f32) (s : Vec Ideal S64x128 .f32) : IVec S1x128x128 8 :=
  shapeCast S1x128x128 (bitcast S128x128 8 (ori (vbits16 (extf .f32 (truncf .bf16 (vr0 o P f s) bitsLt_bf16_f32) bitsLt_bf16_f32))
    (shli (vbits16 (extf .f32 (truncf .bf16 (vr1 o P f s) bitsLt_bf16_f32) bitsLt_bf16_f32)) (broadcast S32x128 16#32)))
    bitcasts_S32x128_w32_S128x128_w8) shapeCasts_S128x128_S1x128x128

/-! ### The same at an index -/

/-- A step of the exponent search goes through a vector index by index. -/
theorem vfld_apply (k : BitVec 32) (a : FVec Ideal S1x512 .f32) (v : IVec S1x512 32) (y : S1x512.Idx) :
    vfld k a v y = Spec.fld k (a y) (v y) := rfl

/-- So does the exponent. -/
theorem vexp_apply (a : FVec Ideal S1x512 .f32) (y : S1x512.Idx) : vexp a y = Spec.expK (a y) := by
  unfold vexp Spec.expK Spec.field
  generalize h : vfld 1#32 a _ = w
  have hw := congrFun h y
  simp only [vfld_apply] at hw
  refine Eq.trans (show _ = Scalar.select (Ideal.cmp .oeq (a y) (Ideal.ofBits .f32 0x00000000#32)) 0#32
    (IntOp.subi (w y) 126#32) from rfl) ?_
  rw [← hw]
  rfl

/-- So does the scale. -/
theorem vscale_apply (a : FVec Ideal S1x512 .f32) (y : S1x512.Idx) : vscale a y = Spec.scaleK (a y) := by
  unfold Spec.scaleK
  rw [← vexp_apply]
  unfold vscale
  generalize vexp a = w
  rfl

/-- So does the inverse scale. -/
theorem vinv_apply (a : FVec Ideal S1x512 .f32) (y : S1x512.Idx) : vinv a y = Spec.invK (a y) := by
  unfold Spec.invK
  rw [← vexp_apply]
  unfold vinv
  generalize vexp a = w
  rfl

/-- The compressed features: the product of scaled weights and activations. -/
def kv (W : Vec Ideal S1088x4096 .bf16) (H : Vec Ideal S512x4096 .bf16) (n : Fin 1088) (l : Fin 512) : EReal :=
  ∑ k : Fin 4096, W (ix2 n k) * H (ix2 l k)

/-- The latents' inverse norm at a position. -/
def rnorm (W : Vec Ideal S1088x4096 .bf16) (H : Vec Ideal S512x4096 .bf16) (l : Fin 512) : EReal :=
  Ideal.rsqrt ((∑ n : Fin 1024, kv W H ⟨n.val, by omega⟩ l * kv W H ⟨n.val, by omega⟩ l) * Ideal.ofBits .f32 0x3A800000#32
    + Ideal.ofBits .f32 0x358637BD#32)

/-- The layer-normed latents. -/
def lat (W : Vec Ideal S1088x4096 .bf16) (H : Vec Ideal S512x4096 .bf16) (g : Fin 1024 → EReal) (n : Fin 1024) (l : Fin 512) : EReal :=
  kv W H ⟨n.val, by omega⟩ l * rnorm W H l * g n

/-- A group's greatest magnitude over 448. -/
def amax (y : Fin 1024 → EReal) (g : Fin 8) : EReal :=
  Finset.fold max (Ideal.ofBits .f32 0xFF800000#32) (fun i : Fin 128 => FloatOps.absf (F := Ideal) (φ := .f32) (y ⟨g.val * 128 + i.val, by omega⟩)) Finset.univ
    * Ideal.ofBits .f32 0x3B124925#32

/-- A coordinate of a pair rotated by an angle: the even rows' or the odd rows'. -/
def rot (n : Fin 64) (a b θ : EReal) : EReal :=
  if n.val % 2 = 0 then a * Ideal.cos θ - b * Ideal.sin θ else a * Ideal.sin θ + b * Ideal.cos θ

/-- The body's product at an index. -/
theorem kv_apply (W : Vec Ideal S1088x4096 .bf16) (H : Vec Ideal S512x4096 .bf16) (n : Fin 1088) (l : Fin 512) :
    k0_pay409 (F := Ideal) W H (ix2 n l) = kv W H n l := by
  unfold kv
  pointwise [k0_pay409]

/-- The body's latents at an index. -/
theorem lat_apply (W : Vec Ideal S1088x4096 .bf16) (H : Vec Ideal S512x4096 .bf16) (n : Fin 1024) (l : Fin 512) :
    k0_pay410 (F := Ideal) W H (ix2 n l) = kv W H ⟨n.val, by omega⟩ l := by
  rw [← kv_apply]
  unfold k0_pay410
  pointwise []

/-- The body's inverse norm at an index. -/
theorem rnorm_apply (W : Vec Ideal S1088x4096 .bf16) (H : Vec Ideal S512x4096 .bf16) (l : Fin 512) :
    k0_pay411 (F := Ideal) W H (ix2 0 l) = rnorm W H l := by
  unfold rnorm
  simp only [← lat_apply]
  unfold k0_pay411
  pointwise []

/-- The layer-normed latents at an index. -/
theorem vy_apply (o : ℕ) (ho : o + 128 ≤ 1024) (h) (C : FVec Ideal S1024x512 .f32) (R : FVec Ideal S1x512 .f32) (g : Vec Ideal S128x128 .f32) (i : Fin 128) (l : Fin 512) :
    vy o h C R g (ix2 i l) = C (ix2 ⟨o + i.val, by omega⟩ l) * R (ix2 0 l) * g (ix2 i ⟨l.val % 128, by omega⟩) := by
  pointwise [vy]
  congr 1
  split_ifs <;> congr 2 <;> apply Fin.ext <;> simp only <;> omega

/-- The group maxima at an index. -/
theorem va_apply (y : FVec Ideal S128x512 .f32) (l : Fin 512) :
    va y (ix2 0 l) = Finset.fold max (Ideal.ofBits .f32 0xFF800000#32) (fun i : Fin 128 => FloatOps.absf (F := Ideal) (φ := .f32) (y (ix2 i l))) Finset.univ
    * Ideal.ofBits .f32 0x3B124925#32 := by
  pointwise [va]

/-- The codes at an index, before they are transposed. -/
theorem vq_apply (y : FVec Ideal S128x512 .f32) (i : Fin 128) (l : Fin 512) :
    vq y (ix2 i l) = min (Ideal.ofBits .f32 0x43E00000#32) (max (Ideal.ofBits .f32 0xC3E00000#32)
      (y (ix2 i l) * Spec.invK (va y (ix2 0 l)))) := by
  rw [← vinv_apply]
  generalize hv : vinv (va y) = w
  unfold vq
  rw [hv]
  pointwise []

/-- The codes at an index. -/
theorem vcodes_apply (y : FVec Ideal S128x512 .f32) (i : Fin 128) (l : Fin 512) :
    vcodes y (ix3 0 l i) = min (Ideal.ofBits .f32 0x43E00000#32) (max (Ideal.ofBits .f32 0xC3E00000#32)
      (y (ix2 i l) * Spec.invK (va y (ix2 0 l)))) := by
  rw [← vq_apply]
  generalize hv : vq y = w
  unfold vcodes
  rw [hv]
  pointwise []

/-- The sign goes through a vector index by index. -/
theorem vsign_apply {s : Shape} (k : BitVec 32) (v : FVec Ideal s .f32) (m : IVec s 32) (y : s.Idx) :
    vsign k v m y = Codes.signed (v y) (m y) k := rfl

/-- So does a step of the first search. -/
theorem vstep8_apply {s : Shape} (k : BitVec 32) (a : FVec Ideal s .f32) (v : IVec s 32) (y : s.Idx) :
    vstep8 k a v y = Codes.step Codes.val8 k (a y) (v y) := rfl

/-- So does a step of the second search. -/
theorem vstep16_apply {s : Shape} (k : BitVec 32) (a : FVec Ideal s .f32) (v : IVec s 32) (y : s.Idx) :
    vstep16 k a v y = Codes.step Codes.val16 k (a y) (v y) := rfl

/-- So does the second search. -/
theorem vsearch16_apply {s : Shape} (a : FVec Ideal s .f32) (y : s.Idx) : vsearch16 a y = Codes.search16 (a y) := by
  unfold vsearch16 Codes.search16
  simp only [vstep16_apply]
  rfl

/-- So do the bits of the first format. -/
theorem vbits8_apply {s : Shape} (v : FVec Ideal s .f32) (y : s.Idx) : vbits8 v y = Codes.kbits8 (v y) := by
  unfold vbits8 Codes.kbits8 Codes.search8
  rw [vsign_apply]
  simp only [vstep8_apply]
  rfl

/-- So do the bits of the second format. -/
theorem vbits16_apply {s : Shape} (v : FVec Ideal s .f32) (y : s.Idx) : vbits16 v y = Codes.kbits16 (v y) := by
  unfold vbits16 Codes.kbits16
  rw [vsign_apply, show max (v y) (-(v y)) = absf v y from rfl, ← vsearch16_apply]
  generalize vsearch16 (absf v) = w
  rfl

/-- So do the bits of the scales. -/
theorem vword_apply (a : FVec Ideal S1x512 .f32) (y : S1x512.Idx) : vword a y = Codes.kscale (a y) := by
  unfold Codes.kscale
  rw [← vexp_apply]
  unfold vword
  generalize vexp a = w
  rfl

/-- The bytes of a group's codes at an index. -/
theorem vrec8_apply (y : FVec Ideal S128x512 .f32) (i : Fin 128) (l : Fin 512) :
    vrec8 y (ix3 0 i l) = (Codes.kbits8 (vcodes y (ix3 0 l i))).setWidth 8 := by
  rw [vcodes_apply, ← vq_apply, ← vbits8_apply]
  unfold vrec8
  generalize vbits8 (vq y) = w
  pointwise []

/-- The bytes of a word, at four rows for one. -/
theorem bitcast_32_8 {s t : Shape} (x : s.Idx → BitVec 32) (h : s.Bitcasts 32 t 8) (j : t.Idx) :
    bitcast t 8 x h j = Codes.byte (t.row j % 4) (x (h.srcIdx j (t.row j / 4) (fun a ha => by
        have := h.pos_lt j 0 (by decide) a ha; omega))) := by
  unfold Codes.byte
  apply BitVec.eq_of_getLsbD_eq
  intro i hi
  rw [bitcast_getLsbD x h j i hi (by decide), BitVec.getLsbD_setWidth, BitVec.getLsbD_ushiftRight]
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- The bytes of eight rows of words. -/
theorem bytesS_apply (x : IVec S8x512 32) (r : Fin 32) (l : Fin 512) :
    bitcast S32x512 8 x bitcasts_S8x512_w32_S32x512_w8 (ix2 r l) = Codes.byte (r.val % 4) (x (ix2 ⟨r.val / 4, by omega⟩ l)) := by
  rw [bitcast_32_8]
  refine congrArg₂ Codes.byte rfl (congrArg x ?_)
  funext a; apply Fin.ext
  match a with
  | ⟨0, _⟩ => rfl
  | ⟨1, _⟩ => rfl

/-- The bytes of 32 rows of words. -/
theorem bytesR_apply (x : IVec S32x128 32) (r : Fin 128) (l : Fin 128) :
    bitcast S128x128 8 x bitcasts_S32x128_w32_S128x128_w8 (ix2 r l) = Codes.byte (r.val % 4) (x (ix2 ⟨r.val / 4, by omega⟩ l)) := by
  rw [bitcast_32_8]
  refine congrArg₂ Codes.byte rfl (congrArg x ?_)
  funext a; apply Fin.ext
  match a with
  | ⟨0, _⟩ => rfl
  | ⟨1, _⟩ => rfl

/-- The rotated keys at an index, by the parity of the coordinate. -/
theorem vrope_split (o : BitVec 32) (P : IVec S32x128 32) (f : FVec Ideal S32x128 .f32) (s : Vec Ideal S64x128 .f32) (n : Fin 64) (l : Fin 128) :
    vrope o P f s (ix3 0 n l) =
      if n.val % 2 = 0 then vr0 o P f s (ix2 ⟨n.val / 2, by omega⟩ l) else vr1 o P f s (ix2 ⟨n.val / 2, by omega⟩ l) := by
  unfold vrope
  generalize vr0 o P f s = a
  generalize vr1 o P f s = b
  pointwise []

/-- The rotated keys at an index. -/
theorem vrope_apply (o : BitVec 32) (P : IVec S32x128 32) (f : FVec Ideal S32x128 .f32) (s : Vec Ideal S64x128 .f32) (n : Fin 64) (l : Fin 128) :
    vrope o P f s (ix3 0 n l) =
      rot n (s (ix2 ⟨n.val / 2 * 2, by omega⟩ l)) (s (ix2 ⟨n.val / 2 * 2 + 1, by omega⟩ l))
        (FloatOps.sitofp (F := Ideal) .f32 (IntOp.addi (P (ix2 ⟨n.val / 2, by omega⟩ l)) o) * f (ix2 ⟨n.val / 2, by omega⟩ l)) := by
  rw [vrope_split]
  unfold rot
  pointwise [vr0, vr1, k0_pay598, k0_pay599, k0_pay597]

/-- The bytes of the rotated keys at an index. -/
theorem vrecR_apply (o : BitVec 32) (P : IVec S32x128 32) (f : FVec Ideal S32x128 .f32) (s : Vec Ideal S64x128 .f32) (n l : Fin 128) :
    vrecR o P f s (ix3 0 n l) = Codes.byte (n.val % 2) (Codes.kbits16 (vrope o P f s (ix3 0 ⟨n.val / 2, by omega⟩ l))) := by
  rw [vrope_split]
  have e : vrecR o P f s (ix3 0 n l) = Codes.byte (n.val % 4) (IntOp.ori (Codes.kbits16 (vr0 o P f s (ix2 ⟨n.val / 4, by omega⟩ l)))
      (IntOp.shli .vector (Codes.kbits16 (vr1 o P f s (ix2 ⟨n.val / 4, by omega⟩ l))) 16#32)) := by
    unfold vrecR
    generalize ha : extf .f32 (truncf .bf16 (vr0 o P f s) bitsLt_bf16_f32) bitsLt_bf16_f32 = a
    generalize hb : extf .f32 (truncf .bf16 (vr1 o P f s) bitsLt_bf16_f32) bitsLt_bf16_f32 = b
    have ea : vr0 o P f s = a := ha
    have eb : vr1 o P f s = b := hb
    rw [ea, eb, ← vbits16_apply, ← vbits16_apply]
    generalize vbits16 a = u
    generalize vbits16 b = w
    generalize hx : ori u (shli w (broadcast S32x128 16#32)) = x
    have hy : IntOp.ori (u (ix2 ⟨n.val / 4, by omega⟩ l)) (IntOp.shli .vector (w (ix2 ⟨n.val / 4, by omega⟩ l)) 16#32)
      = x (ix2 ⟨n.val / 4, by omega⟩ l) := by rw [← hx]; rfl
    rw [hy, ← bytesR_apply]
    generalize bitcast S128x128 8 x _ = z
    pointwise []
  rw [e]
  have e4 : n.val / 2 / 2 = n.val / 4 := by omega
  obtain ⟨p, hp, ep⟩ := (Codes.bits16 (vr0 o P f s (ix2 ⟨n.val / 4, by omega⟩ l))).2
  obtain ⟨q, hq, eq⟩ := (Codes.bits16 (vr1 o P f s (ix2 ⟨n.val / 4, by omega⟩ l))).2
  rw [ep, eq, Codes.byte_pair _ (by omega) _ _ hp hq]
  have e2 : n.val % 4 % 2 = n.val % 2 := by omega
  have e3 : (n.val % 4 / 2 = 0) ↔ n.val / 2 % 2 = 0 := by omega
  rw [e2]
  simp only [e4, e3]
  split_ifs
  · rw [ep]
  · rw [eq]

end Cert.Stages
end
-- ==== Proof.Lists.lean ====
/-
  What the body stores in its four outputs, as lists of pieces over the stages, and what those pieces are together.
-/
module

public import proofs.«01_k».proof.Proof.Stages
public import Idealize.ShloMosaic.Lib.Pipeline.ReadBack

@[expose] public section

set_option maxRecDepth 16384

noncomputable section

namespace Cert.Stages

open Cert.KernelIdeal Cert.KernelIdeal.Gen Idealize.ShloMosaic Idealize.ShloMosaic.TcCoe Idealize.SL.Sem

variable (W : Vec Ideal S1088x4096 .bf16) (H : Vec Ideal S512x4096 .bf16) (γ : Fin 8 → Vec Ideal S128x128 .f32)

/-- The layer-normed latents of the features from `o` on. -/
abbrev vlat (o : ℕ) (h : S1024x512.Slices ![o, 0] S128x512) (g : Fin 8) : FVec Ideal S128x512 .f32 :=
  vy o h (k0_pay410 W H) (k0_pay411 W H) (γ g)

/-- The piece of scales. -/
def scalesL : List (View.Piece (Elt Ideal) S1x8x512 .f32) :=
  [⟨Rect.unit ![0, 0, 0] S1x8x512.size inb_S1x8x512_S1x8x512_0_0_0, k0_pay589
    (vscale (va (vlat W H γ 0 slices_S1024x512_o0_0_S128x512 0)))
    (vscale (va (vlat W H γ 128 slices_S1024x512_o128_0_S128x512 1)))
    (vscale (va (vlat W H γ 256 slices_S1024x512_o256_0_S128x512 2)))
    (vscale (va (vlat W H γ 384 slices_S1024x512_o384_0_S128x512 3)))
    (vscale (va (vlat W H γ 512 slices_S1024x512_o512_0_S128x512 4)))
    (vscale (va (vlat W H γ 640 slices_S1024x512_o640_0_S128x512 5)))
    (vscale (va (vlat W H γ 768 slices_S1024x512_o768_0_S128x512 6)))
    (vscale (va (vlat W H γ 896 slices_S1024x512_o896_0_S128x512 7)))⟩]

/-- The pieces of codes, one per group. -/
def codesL : List (View.Piece (Elt Ideal) S1x512x1024 .fp8e4m3) :=
  [⟨Rect.unit ![0, 0, 896] S1x512x128.size inb_S1x512x1024_S1x512x128_0_0_896, vcodes (vlat W H γ 896 slices_S1024x512_o896_0_S128x512 7)⟩,
    ⟨Rect.unit ![0, 0, 768] S1x512x128.size inb_S1x512x1024_S1x512x128_0_0_768, vcodes (vlat W H γ 768 slices_S1024x512_o768_0_S128x512 6)⟩,
    ⟨Rect.unit ![0, 0, 640] S1x512x128.size inb_S1x512x1024_S1x512x128_0_0_640, vcodes (vlat W H γ 640 slices_S1024x512_o640_0_S128x512 5)⟩,
    ⟨Rect.unit ![0, 0, 512] S1x512x128.size inb_S1x512x1024_S1x512x128_0_0_512, vcodes (vlat W H γ 512 slices_S1024x512_o512_0_S128x512 4)⟩,
    ⟨Rect.unit ![0, 0, 384] S1x512x128.size inb_S1x512x1024_S1x512x128_0_0_384, vcodes (vlat W H γ 384 slices_S1024x512_o384_0_S128x512 3)⟩,
    ⟨Rect.unit ![0, 0, 256] S1x512x128.size inb_S1x512x1024_S1x512x128_0_0_256, vcodes (vlat W H γ 256 slices_S1024x512_o256_0_S128x512 2)⟩,
    ⟨Rect.unit ![0, 0, 128] S1x512x128.size inb_S1x512x1024_S1x512x128_0_0_128, vcodes (vlat W H γ 128 slices_S1024x512_o128_0_S128x512 1)⟩,
    ⟨Rect.unit ![0, 0, 0] S1x512x128.size inb_S1x512x1024_S1x512x128_0_0_0, vcodes (vlat W H γ 0 slices_S1024x512_o0_0_S128x512 0)⟩]

/-- The pieces of rotated keys, one per 128 positions. -/
def ropeL (P : IVec S32x128 32) (f : FVec Ideal S32x128 .f32) (s : Fin 4 → Vec Ideal S64x128 .f32) :
    List (View.Piece (Elt Ideal) S1x64x512 .bf16) :=
  [⟨Rect.unit ![0, 0, 384] S1x64x128.size inb_S1x64x512_S1x64x128_0_0_384, vrope 384#32 P f (s 3)⟩,
    ⟨Rect.unit ![0, 0, 256] S1x64x128.size inb_S1x64x512_S1x64x128_0_0_256, vrope 256#32 P f (s 2)⟩,
    ⟨Rect.unit ![0, 0, 128] S1x64x128.size inb_S1x64x512_S1x64x128_0_0_128, vrope 128#32 P f (s 1)⟩,
    ⟨Rect.unit ![0, 0, 0] S1x64x128.size inb_S1x64x512_S1x64x128_0_0_0, vrope 0#32 P f (s 0)⟩]

/-- The pieces of records: the bytes of the keys, of the scales, of the codes. -/
def recL (P : IVec S32x128 32) (f : FVec Ideal S32x128 .f32) (s : Fin 4 → Vec Ideal S64x128 .f32) :
    List (View.Piece (Elt Ideal) S1x1184x512 .i8) :=
  [⟨Rect.unit ![0, 1056, 384] S1x128x128.size inb_S1x1184x512_S1x128x128_0_1056_384, vrecR 384#32 P f (s 3)⟩,
    ⟨Rect.unit ![0, 1056, 256] S1x128x128.size inb_S1x1184x512_S1x128x128_0_1056_256, vrecR 256#32 P f (s 2)⟩,
    ⟨Rect.unit ![0, 1056, 128] S1x128x128.size inb_S1x1184x512_S1x128x128_0_1056_128, vrecR 128#32 P f (s 1)⟩,
    ⟨Rect.unit ![0, 1056, 0] S1x128x128.size inb_S1x1184x512_S1x128x128_0_1056_0, vrecR 0#32 P f (s 0)⟩,
    ⟨Rect.unit ![0, 1024, 0] S1x32x512.size inb_S1x1184x512_S1x32x512_0_1024_0, k0_pay590
      (vword (va (vlat W H γ 0 slices_S1024x512_o0_0_S128x512 0)))
      (vword (va (vlat W H γ 128 slices_S1024x512_o128_0_S128x512 1)))
      (vword (va (vlat W H γ 256 slices_S1024x512_o256_0_S128x512 2)))
      (vword (va (vlat W H γ 384 slices_S1024x512_o384_0_S128x512 3)))
      (vword (va (vlat W H γ 512 slices_S1024x512_o512_0_S128x512 4)))
      (vword (va (vlat W H γ 640 slices_S1024x512_o640_0_S128x512 5)))
      (vword (va (vlat W H γ 768 slices_S1024x512_o768_0_S128x512 6)))
      (vword (va (vlat W H γ 896 slices_S1024x512_o896_0_S128x512 7)))⟩,
    ⟨Rect.unit ![0, 896, 0] S1x128x512.size inb_S1x1184x512_S1x128x512_0_896_0, vrec8 (vlat W H γ 896 slices_S1024x512_o896_0_S128x512 7)⟩,
    ⟨Rect.unit ![0, 768, 0] S1x128x512.size inb_S1x1184x512_S1x128x512_0_768_0, vrec8 (vlat W H γ 768 slices_S1024x512_o768_0_S128x512 6)⟩,
    ⟨Rect.unit ![0, 640, 0] S1x128x512.size inb_S1x1184x512_S1x128x512_0_640_0, vrec8 (vlat W H γ 640 slices_S1024x512_o640_0_S128x512 5)⟩,
    ⟨Rect.unit ![0, 512, 0] S1x128x512.size inb_S1x1184x512_S1x128x512_0_512_0, vrec8 (vlat W H γ 512 slices_S1024x512_o512_0_S128x512 4)⟩,
    ⟨Rect.unit ![0, 384, 0] S1x128x512.size inb_S1x1184x512_S1x128x512_0_384_0, vrec8 (vlat W H γ 384 slices_S1024x512_o384_0_S128x512 3)⟩,
    ⟨Rect.unit ![0, 256, 0] S1x128x512.size inb_S1x1184x512_S1x128x512_0_256_0, vrec8 (vlat W H γ 256 slices_S1024x512_o256_0_S128x512 2)⟩,
    ⟨Rect.unit ![0, 128, 0] S1x128x512.size inb_S1x1184x512_S1x128x512_0_128_0, vrec8 (vlat W H γ 128 slices_S1024x512_o128_0_S128x512 1)⟩,
    ⟨Rect.unit ![0, 0, 0] S1x128x512.size inb_S1x1184x512_S1x128x512_0_0_0, vrec8 (vlat W H γ 0 slices_S1024x512_o0_0_S128x512 0)⟩]

/-- What a point leaves in the scales. -/
def outS (Γ : Fin 1024 → EReal) : Vec Ideal S1x8x512 .f32 :=
  fun y => Spec.scaleK (amax (fun n => lat W H Γ n ⟨(y 2).val, (y 2).isLt⟩) ⟨(y 1).val, (y 1).isLt⟩)

/-- A code: the layer-normed latent over its group's scale, held in the format's range. -/
def code (y : Fin 1024 → EReal) (n : Fin 1024) : EReal :=
  min (Ideal.ofBits .f32 0x43E00000#32) (max (Ideal.ofBits .f32 0xC3E00000#32)
    (y n * Spec.invK (amax y ⟨n.val / 128, by omega⟩)))

/-- What a point leaves in the codes. -/
def outC (Γ : Fin 1024 → EReal) : Vec Ideal S1x512x1024 .fp8e4m3 :=
  fun y => code (fun n => lat W H Γ n ⟨(y 1).val, (y 1).isLt⟩) ⟨(y 2).val, (y 2).isLt⟩

/-- What a point leaves in the rotated keys. -/
def outR (P : IVec S32x128 32) (f : FVec Ideal S32x128 .f32) : Vec Ideal S1x64x512 .bf16 :=
  fun y => have h1 : (y 1).val < 64 := (y 1).isLt; have h2 : (y 2).val < 512 := (y 2).isLt
    rot ⟨(y 1).val, h1⟩
      (kv W H ⟨1024 + (y 1).val / 2 * 2, by omega⟩ ⟨(y 2).val, h2⟩)
      (kv W H ⟨1024 + ((y 1).val / 2 * 2 + 1), by omega⟩ ⟨(y 2).val, h2⟩)
      (FloatOps.sitofp (F := Ideal) .f32 (IntOp.addi (P (ix2 ⟨(y 1).val / 2, by omega⟩ ⟨(y 2).val % 128, by omega⟩))
        (BitVec.ofNat 32 ((y 2).val / 128 * 128))) * f (ix2 ⟨(y 1).val / 2, by omega⟩ ⟨(y 2).val % 128, by omega⟩))

/-- What a point leaves in the records: the bytes of the codes, of the scales, of the rotated keys. -/
def outB (Γ : Fin 1024 → EReal) (P : IVec S32x128 32) (f : FVec Ideal S32x128 .f32) : Vec Ideal S1x1184x512 .i8 :=
  fun y => have h1 : (y 1).val < 1184 := (y 1).isLt; have h2 : (y 2).val < 512 := (y 2).isLt
    if hc : (y 1).val < 1024 then (Codes.kbits8 (outC W H Γ (ix3 0 ⟨(y 2).val, h2⟩ ⟨(y 1).val, hc⟩))).setWidth 8
    else if hs : (y 1).val < 1056 then
      Codes.byte (((y 1).val - 1024) % 4) (Codes.kscale (amax (fun n => lat W H Γ n ⟨(y 2).val, h2⟩) ⟨((y 1).val - 1024) / 4, by omega⟩))
    else Codes.byte (((y 1).val - 1056) % 2) (Codes.kbits16 (outR W H P f (ix3 0 ⟨((y 1).val - 1056) / 2, by omega⟩ ⟨(y 2).val, h2⟩)))

/-- The groups' columns hold the layer-norm weights. -/
abbrev Cols (γ : Fin 8 → Vec Ideal S128x128 .f32) (Γ : Fin 1024 → EReal) : Prop :=
  ∀ (g : Fin 8) (i l : Fin 128), γ g (ix2 i l) = Γ ⟨128 * g.val + i.val, by omega⟩

variable (Γ : Fin 1024 → EReal) (hγ : Cols γ Γ)

include hγ in
/-- A group's latents as the body computes them. -/
theorem vlat_apply (o : ℕ) (h) (g : Fin 8) (ho : o = 128 * g.val) (i : Fin 128) (l : Fin 512) :
    vlat W H γ o h g (ix2 i l) = lat W H Γ ⟨g.val * 128 + i.val, by omega⟩ l := by
  subst ho
  refine (vy_apply _ (by omega) _ _ _ _ _ _).trans ?_
  rw [lat_apply, rnorm_apply, hγ]
  unfold lat
  simp only [mul_comm g.val 128]

include hγ in
/-- A group's greatest magnitudes as the body computes them. -/
theorem vamax_apply (o : ℕ) (h) (g : Fin 8) (ho : o = 128 * g.val) (l : Fin 512) :
    va (vlat W H γ o h g) (ix2 0 l) = amax (fun n => lat W H Γ n l) g := by
  rw [va_apply]
  unfold amax
  simp only [vlat_apply W H γ Γ hγ o h g ho]

include hγ in
/-- A group's codes as the body stores them. -/
theorem vcodes_piece (o : ℕ) (h) (g : Fin 8) (ho : o = 128 * g.val) (inb) (x : S1x512x128.Idx) :
    vcodes (vlat W H γ o h g) x = outC W H Γ ((Rect.unit (s := S1x512x1024) ![0, 0, o] S1x512x128.size inb).emb x) := by
  obtain ⟨l, i, rfl⟩ : ∃ (l : Fin 512) (i : Fin 128), x = ix3 0 l i :=
    ⟨x 1, x 2, by funext d; match d with | ⟨0, _⟩ => exact Subsingleton.elim (α := Fin 1) _ _ | ⟨1, _⟩ => rfl | ⟨2, _⟩ => rfl⟩
  rw [vcodes_apply, vamax_apply W H γ Γ hγ o h g ho, vlat_apply W H γ Γ hγ o h g ho]
  subst ho
  have e1 : (((Rect.unit (s := S1x512x1024) ![0, 0, 128 * g.val] S1x512x128.size inb).emb (ix3 0 l i)) 1).val = l.val := by
    simp [Rect.emb, LoadRect.idx, Rect.unit, ix3]
  have e2 : (((Rect.unit (s := S1x512x1024) ![0, 0, 128 * g.val] S1x512x128.size inb).emb (ix3 0 l i)) 2).val = g.val * 128 + i.val := by
    simp [Rect.emb, LoadRect.idx, Rect.unit, ix3]; omega
  unfold outC code
  simp only [e1, e2]
  have e3 : (g.val * 128 + i.val) / 128 = g.val := by omega
  simp only [e3]

/-- A tile of rotated keys as the body stores it. -/
theorem vrope_piece (P : IVec S32x128 32) (f : FVec Ideal S32x128 .f32) (s : Vec Ideal S64x128 .f32) (o : ℕ) (g : Fin 4) (ho : o = 128 * g.val)
    (hs : ∀ (n : Fin 64) (l : Fin 128), s (ix2 n l) = kv W H ⟨1024 + n.val, by omega⟩ ⟨128 * g.val + l.val, by omega⟩)
    (inb) (x : S1x64x128.Idx) :
    vrope (BitVec.ofNat 32 o) P f s x = outR W H P f ((Rect.unit (s := S1x64x512) ![0, 0, o] S1x64x128.size inb).emb x) := by
  obtain ⟨n, l, rfl⟩ : ∃ (n : Fin 64) (l : Fin 128), x = ix3 0 n l :=
    ⟨x 1, x 2, by funext d; match d with | ⟨0, _⟩ => exact Subsingleton.elim (α := Fin 1) _ _ | ⟨1, _⟩ => rfl | ⟨2, _⟩ => rfl⟩
  rw [vrope_apply, hs, hs]
  subst ho
  have e1 : (((Rect.unit (s := S1x64x512) ![0, 0, 128 * g.val] S1x64x128.size inb).emb (ix3 0 n l)) 1).val = n.val := by
    simp [Rect.emb, LoadRect.idx, Rect.unit, ix3]
  have e2 : (((Rect.unit (s := S1x64x512) ![0, 0, 128 * g.val] S1x64x128.size inb).emb (ix3 0 n l)) 2).val = 128 * g.val + l.val := by
    simp [Rect.emb, LoadRect.idx, Rect.unit, ix3]
  unfold outR
  simp only [e1, e2]
  have e3 : (128 * g.val + l.val) % 128 = l.val := by omega
  have e4 : (128 * g.val + l.val) / 128 * 128 = 128 * g.val := by omega
  simp only [e3, e4]

/-- A list of blocks of `G` grows by a block of `G`. -/
theorem piecesOf_cons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

include hγ in
/-- The codes' pieces are the codes. -/
theorem codes_canon : View.canon (codesL W H γ) = outC W H Γ := by
  refine funext fun y => View.canon_apply_of_pieces _ _ (View.PiecesOf.mem ?_) y
    (View.cover_of_tiledL (codesL W H γ) S1x512x128.size (by sl_kernel_rfl) y)
  unfold codesL
  iterate 8 refine piecesOf_cons (fun x => vcodes_piece W H γ Γ hγ _ _ _ (by rfl) (by decide) x) ?_
  trivial

/-- The rotated keys' pieces are the rotated keys. -/
theorem rope_canon (P : IVec S32x128 32) (f : FVec Ideal S32x128 .f32) (s : Fin 4 → Vec Ideal S64x128 .f32)
    (hs : ∀ (g : Fin 4) (n : Fin 64) (l : Fin 128), s g (ix2 n l) = kv W H ⟨1024 + n.val, by omega⟩ ⟨128 * g.val + l.val, by omega⟩) :
    View.canon (ropeL P f s) = outR W H P f := by
  refine funext fun y => View.canon_apply_of_pieces _ _ (View.PiecesOf.mem ?_) y
    (View.cover_of_tiledL (ropeL P f s) S1x64x128.size (by sl_kernel_rfl) y)
  unfold ropeL
  iterate 4 refine piecesOf_cons (fun x => vrope_piece W H P f _ _ _ (by rfl) (hs _) (by decide) x) ?_
  trivial

/-- Eight rows stacked are, at a row, that row. -/
theorem stack_apply (r : Fin 8 → FVec Ideal S1x512 .f32) (g : Fin 8) (l : Fin 512) :
    k0_pay589 (r 0) (r 1) (r 2) (r 3) (r 4) (r 5) (r 6) (r 7) (ix3 0 g l) = r g (ix2 0 l) := by
  match g with
  | 0 | 1 | 2 | 3 | 4 | 5 | 6 | 7 => pointwise [k0_pay589]

include hγ in
/-- The scales' piece is the scales. -/
theorem scales_canon : View.canon (scalesL W H γ) = outS W H Γ := by
  unfold scalesL
  rw [View.canon_cons_unit_lit _ _ _ (by decide)]
  funext x
  obtain ⟨g, l, rfl⟩ : ∃ (g : Fin 8) (l : Fin 512), x = ix3 0 g l :=
    ⟨x 1, x 2, by funext d; match d with | ⟨0, _⟩ => exact Subsingleton.elim (α := Fin 1) _ _ | ⟨1, _⟩ => rfl | ⟨2, _⟩ => rfl⟩
  refine (stack_apply (fun g : Fin 8 => match g with
    | 0 => vscale (va (vlat W H γ 0 slices_S1024x512_o0_0_S128x512 0))
    | 1 => vscale (va (vlat W H γ 128 slices_S1024x512_o128_0_S128x512 1))
    | 2 => vscale (va (vlat W H γ 256 slices_S1024x512_o256_0_S128x512 2))
    | 3 => vscale (va (vlat W H γ 384 slices_S1024x512_o384_0_S128x512 3))
    | 4 => vscale (va (vlat W H γ 512 slices_S1024x512_o512_0_S128x512 4))
    | 5 => vscale (va (vlat W H γ 640 slices_S1024x512_o640_0_S128x512 5))
    | 6 => vscale (va (vlat W H γ 768 slices_S1024x512_o768_0_S128x512 6))
    | 7 => vscale (va (vlat W H γ 896 slices_S1024x512_o896_0_S128x512 7))) g l).trans ?_
  unfold outS
  match g with
  | 0 | 1 | 2 | 3 | 4 | 5 | 6 | 7 => exact (vscale_apply _ _).trans (congrArg Spec.scaleK (vamax_apply W H γ Γ hγ _ _ _ (by rfl) _))

include hγ in
/-- The bytes of a group's codes as the body stores them. -/
theorem vrec8_piece (P : IVec S32x128 32) (f : FVec Ideal S32x128 .f32) (o : ℕ) (h) (g : Fin 8) (ho : o = 128 * g.val) (inb)
    (inb' : ∀ a, (![0, 0, o] : Fin 3 → ℕ) a + S1x512x128.size a ≤ S1x512x1024.size a) (x : S1x128x512.Idx) :
    vrec8 (vlat W H γ o h g) x = outB W H Γ P f ((Rect.unit (s := S1x1184x512) ![0, o, 0] S1x128x512.size inb).emb x) := by
  obtain ⟨i, l, rfl⟩ : ∃ (i : Fin 128) (l : Fin 512), x = ix3 0 i l :=
    ⟨x 1, x 2, by funext d; match d with | ⟨0, _⟩ => exact Subsingleton.elim (α := Fin 1) _ _ | ⟨1, _⟩ => rfl | ⟨2, _⟩ => rfl⟩
  rw [vrec8_apply, vcodes_piece W H γ Γ hγ o h g ho inb']
  subst ho
  have e1 : (((Rect.unit (s := S1x1184x512) ![0, 128 * g.val, 0] S1x128x512.size inb).emb (ix3 0 i l)) 1).val = 128 * g.val + i.val := by
    simp [Rect.emb, LoadRect.idx, Rect.unit, ix3]
  have e2 : (((Rect.unit (s := S1x1184x512) ![0, 128 * g.val, 0] S1x128x512.size inb).emb (ix3 0 i l)) 2).val = l.val := by
    simp [Rect.emb, LoadRect.idx, Rect.unit, ix3]
  have e3 : (Rect.unit (s := S1x512x1024) ![0, 0, 128 * g.val] S1x512x128.size inb').emb (ix3 0 l i)
      = ix3 0 l ⟨128 * g.val + i.val, by omega⟩ := by
    funext d; apply Fin.ext
    match d with
    | ⟨0, _⟩ => simp [Rect.emb, LoadRect.idx, Rect.unit, ix3]
    | ⟨1, _⟩ => simp [Rect.emb, LoadRect.idx, Rect.unit, ix3]
    | ⟨2, _⟩ => simp [Rect.emb, LoadRect.idx, Rect.unit, ix3]
  rw [e3]
  unfold outB
  have lt : 128 * g.val + i.val < 1024 := by omega
  simp only [e1, e2, lt, dite_true]

/-- The bytes of a tile of rotated keys as the body stores them. -/
theorem vrecR_piece (P : IVec S32x128 32) (f : FVec Ideal S32x128 .f32) (s : Vec Ideal S64x128 .f32) (o : ℕ) (g : Fin 4) (ho : o = 128 * g.val)
    (hs : ∀ (n : Fin 64) (l : Fin 128), s (ix2 n l) = kv W H ⟨1024 + n.val, by omega⟩ ⟨128 * g.val + l.val, by omega⟩)
    (inb) (inb' : ∀ a, (![0, 0, o] : Fin 3 → ℕ) a + S1x64x128.size a ≤ S1x64x512.size a) (x : S1x128x128.Idx) :
    vrecR (BitVec.ofNat 32 o) P f s x = outB W H Γ P f ((Rect.unit (s := S1x1184x512) ![0, 1056, o] S1x128x128.size inb).emb x) := by
  obtain ⟨n, l, rfl⟩ : ∃ (n l : Fin 128), x = ix3 0 n l :=
    ⟨x 1, x 2, by funext d; match d with | ⟨0, _⟩ => exact Subsingleton.elim (α := Fin 1) _ _ | ⟨1, _⟩ => rfl | ⟨2, _⟩ => rfl⟩
  rw [vrecR_apply, vrope_piece W H P f s o g ho hs inb']
  subst ho
  have e1 : (((Rect.unit (s := S1x1184x512) ![0, 1056, 128 * g.val] S1x128x128.size inb).emb (ix3 0 n l)) 1).val = 1056 + n.val := by
    simp [Rect.emb, LoadRect.idx, Rect.unit, ix3]
  have e2 : (((Rect.unit (s := S1x1184x512) ![0, 1056, 128 * g.val] S1x128x128.size inb).emb (ix3 0 n l)) 2).val = 128 * g.val + l.val := by
    simp [Rect.emb, LoadRect.idx, Rect.unit, ix3]
  have e3 : (Rect.unit (s := S1x64x512) ![0, 0, 128 * g.val] S1x64x128.size inb').emb (ix3 0 ⟨n.val / 2, by omega⟩ l)
      = ix3 0 ⟨n.val / 2, by omega⟩ ⟨128 * g.val + l.val, by omega⟩ := by
    funext d; apply Fin.ext
    match d with
    | ⟨0, _⟩ => simp [Rect.emb, LoadRect.idx, Rect.unit, ix3]
    | ⟨1, _⟩ => simp [Rect.emb, LoadRect.idx, Rect.unit, ix3]
    | ⟨2, _⟩ => simp [Rect.emb, LoadRect.idx, Rect.unit, ix3]
  rw [e3]
  unfold outB
  have n1 : ¬ 1056 + n.val < 1024 := by omega
  have n2 : ¬ 1056 + n.val < 1056 := by omega
  have n3 : 1056 + n.val - 1056 = n.val := by omega
  simp only [e1, e2, n1, n2, n3, dite_false]

/-- Eight rows of words stacked, as bytes. -/
theorem bytes_apply (r : Fin 8 → IVec S1x512 32) (n : Fin 32) (l : Fin 512) :
    k0_pay590 (r 0) (r 1) (r 2) (r 3) (r 4) (r 5) (r 6) (r 7) (ix3 0 n l) = Codes.byte (n.val % 4) (r ⟨n.val / 4, by omega⟩ (ix2 0 l)) := by
  have e : ∀ g : Fin 8, concatenate S8x512 0 [⟨S1x512, r 0⟩, ⟨S1x512, r 1⟩, ⟨S1x512, r 2⟩, ⟨S1x512, r 3⟩, ⟨S1x512, r 4⟩, ⟨S1x512, r 5⟩, ⟨S1x512, r 6⟩, ⟨S1x512, r 7⟩]
      concatenates_S1x512_S1x512_S1x512_S1x512_S1x512_S1x512_S1x512_S1x512_S8x512_d0 (ix2 g l) = r g (ix2 0 l) := by
    intro g
    match g with
    | 0 | 1 | 2 | 3 | 4 | 5 | 6 | 7 => pointwise []
  rw [← e]
  unfold k0_pay590
  generalize concatenate S8x512 0 _ _ = x
  rw [← bytesS_apply]
  generalize bitcast S32x512 8 x _ = z
  pointwise []

include hγ in
/-- The bytes of the scales as the body stores them. -/
theorem words_piece (P : IVec S32x128 32) (f : FVec Ideal S32x128 .f32) (inb) (x : S1x32x512.Idx) :
    k0_pay590
      (vword (va (vlat W H γ 0 slices_S1024x512_o0_0_S128x512 0)))
      (vword (va (vlat W H γ 128 slices_S1024x512_o128_0_S128x512 1)))
      (vword (va (vlat W H γ 256 slices_S1024x512_o256_0_S128x512 2)))
      (vword (va (vlat W H γ 384 slices_S1024x512_o384_0_S128x512 3)))
      (vword (va (vlat W H γ 512 slices_S1024x512_o512_0_S128x512 4)))
      (vword (va (vlat W H γ 640 slices_S1024x512_o640_0_S128x512 5)))
      (vword (va (vlat W H γ 768 slices_S1024x512_o768_0_S128x512 6)))
      (vword (va (vlat W H γ 896 slices_S1024x512_o896_0_S128x512 7))) x
      = outB W H Γ P f ((Rect.unit (s := S1x1184x512) ![0, 1024, 0] S1x32x512.size inb).emb x) := by
  obtain ⟨n, l, rfl⟩ : ∃ (n : Fin 32) (l : Fin 512), x = ix3 0 n l :=
    ⟨x 1, x 2, by funext d; match d with | ⟨0, _⟩ => exact Subsingleton.elim (α := Fin 1) _ _ | ⟨1, _⟩ => rfl | ⟨2, _⟩ => rfl⟩
  refine (bytes_apply (fun g : Fin 8 => match g with
    | 0 => vword (va (vlat W H γ 0 slices_S1024x512_o0_0_S128x512 0))
    | 1 => vword (va (vlat W H γ 128 slices_S1024x512_o128_0_S128x512 1))
    | 2 => vword (va (vlat W H γ 256 slices_S1024x512_o256_0_S128x512 2))
    | 3 => vword (va (vlat W H γ 384 slices_S1024x512_o384_0_S128x512 3))
    | 4 => vword (va (vlat W H γ 512 slices_S1024x512_o512_0_S128x512 4))
    | 5 => vword (va (vlat W H γ 640 slices_S1024x512_o640_0_S128x512 5))
    | 6 => vword (va (vlat W H γ 768 slices_S1024x512_o768_0_S128x512 6))
    | 7 => vword (va (vlat W H γ 896 slices_S1024x512_o896_0_S128x512 7))) n l).trans ?_
  have e1 : (((Rect.unit (s := S1x1184x512) ![0, 1024, 0] S1x32x512.size inb).emb (ix3 0 n l)) 1).val = 1024 + n.val := by
    simp [Rect.emb, LoadRect.idx, Rect.unit, ix3]
  have e2 : (((Rect.unit (s := S1x1184x512) ![0, 1024, 0] S1x32x512.size inb).emb (ix3 0 n l)) 2).val = l.val := by
    simp [Rect.emb, LoadRect.idx, Rect.unit, ix3]
  unfold outB
  have n1 : ¬ 1024 + n.val < 1024 := by omega
  have n2 : 1024 + n.val < 1056 := by omega
  have n3 : 1024 + n.val - 1024 = n.val := by omega
  simp only [e1, e2, n1, n2, n3, dite_false, dite_true]
  refine congrArg (Codes.byte _) ?_
  generalize (⟨n.val / 4, _⟩ : Fin 8) = g
  match g with
  | 0 | 1 | 2 | 3 | 4 | 5 | 6 | 7 => exact (vword_apply _ _).trans (congrArg Codes.kscale (vamax_apply W H γ Γ hγ _ _ _ (by rfl) _))

/-- A box of a record holds the rows and lanes it spans. -/
theorem mem_box {r q : ℕ} (o1 o2 : ℕ) (inb) (y : S1x1184x512.Idx) (h1 : o1 ≤ (y 1).val ∧ (y 1).val < o1 + r) (h2 : o2 ≤ (y 2).val ∧ (y 2).val < o2 + q) :
    y ∈ (Rect.unit (s := S1x1184x512) ![0, o1, o2] (⟨3, ![1, r, q]⟩ : Shape).size inb).set := by
  have e : y = (Rect.unit (s := S1x1184x512) ![0, o1, o2] (⟨3, ![1, r, q]⟩ : Shape).size inb).idx
      (ix3 0 ⟨(y 1).val - o1, by omega⟩ ⟨(y 2).val - o2, by omega⟩ : (⟨3, ![1, r, q]⟩ : Shape).Idx) := by
    funext d; apply Fin.ext
    match d with
    | ⟨0, _⟩ => have : (y 0).val < 1 := (y 0).isLt; simp [LoadRect.idx, Rect.unit, ix3]
    | ⟨1, _⟩ => simp [LoadRect.idx, Rect.unit, ix3]; omega
    | ⟨2, _⟩ => simp [LoadRect.idx, Rect.unit, ix3]; omega
  rw [e]
  exact LoadRect.idx_mem _ _

/-- The records' pieces cover a record. -/
theorem rec_cover (P : IVec S32x128 32) (f : FVec Ideal S32x128 .f32) (s : Fin 4 → Vec Ideal S64x128 .f32) (y : S1x1184x512.Idx) :
    ∃ p ∈ recL W H γ P f s, y ∈ p.1.set := by
  have h1 : (y 1).val < 1184 := (y 1).isLt
  have h2 : (y 2).val < 512 := (y 2).isLt
  have pick (k : ℕ) (hk : k < 13) (hy : y ∈ ((recL W H γ P f s)[k]'hk).1.set) : ∃ p ∈ recL W H γ P f s, y ∈ p.1.set :=
    ⟨_, List.getElem_mem hk, hy⟩
  by_cases c1 : (y 1).val < 1024
  · obtain h | h | h | h | h | h | h | h : (y 1).val / 128 = 0 ∨ (y 1).val / 128 = 1 ∨ (y 1).val / 128 = 2 ∨ (y 1).val / 128 = 3
        ∨ (y 1).val / 128 = 4 ∨ (y 1).val / 128 = 5 ∨ (y 1).val / 128 = 6 ∨ (y 1).val / 128 = 7 := by omega
    · exact pick 12 (by decide) (mem_box (r := 128) (q := 512) 0 0 inb_S1x1184x512_S1x128x512_0_0_0 y (by omega) (by omega))
    · exact pick 11 (by decide) (mem_box (r := 128) (q := 512) 128 0 inb_S1x1184x512_S1x128x512_0_128_0 y (by omega) (by omega))
    · exact pick 10 (by decide) (mem_box (r := 128) (q := 512) 256 0 inb_S1x1184x512_S1x128x512_0_256_0 y (by omega) (by omega))
    · exact pick 9 (by decide) (mem_box (r := 128) (q := 512) 384 0 inb_S1x1184x512_S1x128x512_0_384_0 y (by omega) (by omega))
    · exact pick 8 (by decide) (mem_box (r := 128) (q := 512) 512 0 inb_S1x1184x512_S1x128x512_0_512_0 y (by omega) (by omega))
    · exact pick 7 (by decide) (mem_box (r := 128) (q := 512) 640 0 inb_S1x1184x512_S1x128x512_0_640_0 y (by omega) (by omega))
    · exact pick 6 (by decide) (mem_box (r := 128) (q := 512) 768 0 inb_S1x1184x512_S1x128x512_0_768_0 y (by omega) (by omega))
    · exact pick 5 (by decide) (mem_box (r := 128) (q := 512) 896 0 inb_S1x1184x512_S1x128x512_0_896_0 y (by omega) (by omega))
  by_cases c2 : (y 1).val < 1056
  · exact pick 4 (by decide) (mem_box (r := 32) (q := 512) 1024 0 inb_S1x1184x512_S1x32x512_0_1024_0 y (by omega) (by omega))
  · obtain h | h | h | h : (y 2).val / 128 = 0 ∨ (y 2).val / 128 = 1 ∨ (y 2).val / 128 = 2 ∨ (y 2).val / 128 = 3 := by omega
    · exact pick 3 (by decide) (mem_box (r := 128) (q := 128) 1056 0 inb_S1x1184x512_S1x128x128_0_1056_0 y (by omega) (by omega))
    · exact pick 2 (by decide) (mem_box (r := 128) (q := 128) 1056 128 inb_S1x1184x512_S1x128x128_0_1056_128 y (by omega) (by omega))
    · exact pick 1 (by decide) (mem_box (r := 128) (q := 128) 1056 256 inb_S1x1184x512_S1x128x128_0_1056_256 y (by omega) (by omega))
    · exact pick 0 (by decide) (mem_box (r := 128) (q := 128) 1056 384 inb_S1x1184x512_S1x128x128_0_1056_384 y (by omega) (by omega))

include hγ in
/-- The records' pieces are the records. -/
theorem rec_canon (P : IVec S32x128 32) (f : FVec Ideal S32x128 .f32) (s : Fin 4 → Vec Ideal S64x128 .f32)
    (hs : ∀ (g : Fin 4) (n : Fin 64) (l : Fin 128), s g (ix2 n l) = kv W H ⟨1024 + n.val, by omega⟩ ⟨128 * g.val + l.val, by omega⟩) :
    View.canon (recL W H γ P f s) = outB W H Γ P f := by
  refine funext fun y => View.canon_apply_of_pieces _ _ (View.PiecesOf.mem ?_) y (rec_cover W H γ P f s y)
  unfold recL
  iterate 4 refine piecesOf_cons (fun x => vrecR_piece W H Γ P f _ _ _ (by rfl) (hs _) (by decide) (by decide) x) ?_
  refine piecesOf_cons (fun x => words_piece W H γ Γ hγ P f (by decide) x) ?_
  iterate 8 refine piecesOf_cons (fun x => vrec8_piece W H γ Γ hγ P f _ _ _ (by rfl) (by decide) (by decide) x) ?_
  trivial

end Cert.Stages
end
-- ==== Proof.Runs.lean ====
/-
  The kernel's two runs (the first point's, which prepares the weights, and every other point's): the pieces each
  leaves, as lists of stages.
-/
module

public import proofs.«01_k».proof.Proof.Gen.KernelIdeal.Value
public import proofs.«01_k».proof.Proof.Lists
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.Runs

open Cert.KernelIdeal Cert.KernelIdeal.Gen Cert.KernelIdeal.Value Idealize.ShloMosaic Idealize.ShloMosaic.TcCoe Idealize.SL.Sem
open Idealize.ShloMosaic.Pipeline (Dat)
open Cert.Stages

variable (m : (ℓ : Loc nD τ sig) → Buf (Elt Ideal) ℓ) (ρ : Dev nD → PrngReg)

/-- The first point's run at the blocks of its operands. -/
abbrev runA (c : Dev nD) (t : Fin cfg0.N) (h0 : t.val % 48 = 0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)

/-- Every other point's run at the blocks of its operands, over what the point before left in the scratch. -/
abbrev runB (c : Dev nD) (t : Fin cfg0.N) (h0 : ¬ t.val % 48 = 0) (xs0 : Vec Ideal S1088x4096 .bf16) (xs1 : Vec Ideal S1024x128 .f32) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) xs0 xs1

/-- The load of the position of a point's batch row. -/
abbrev posA (c : Dev nD) (t : Fin cfg0.N) : BitVec 32 :=
  View.readAt (Elt Ideal) (ms0_0 t).view (Rect.unit (s := S12) (k0_off1 (grid0.coords t)) S1.size (k0_off1_inb _)).toLoadRect ((hs0_0 t).unread (iblk m c 0 t)) (Shape.Idx.first (show 0 < S1.numel by decide))

/-- The positions of a point's tile. -/
abbrev posV (c : Dev nD) (t : Fin cfg0.N) : IVec S32x128 32 :=
  k0_pay592 (F := Ideal) (BitVec.ofNat 32 (grid0.coords t 1)) (posA m c t)

/-- The load of the frequencies. -/
abbrev frqV (c : Dev nD) (t : Fin cfg0.N) : FVec Ideal S32x128 .f32 :=
  k0_pay593 (View.readAt (Elt Ideal) (ms0_6 t).view (Rect.unit (s := S32x128) ![0, 0] S32x128.size inb_S32x128_S32x128_0_0).toLoadRect ((hs0_6 t).unread (iblk m c 6 t)))

section B
variable (c : Dev nD) (t : Fin cfg0.N) (h0 : ¬ t.val % 48 = 0) (xs0 : Vec Ideal S1088x4096 .bf16) (xs1 : Vec Ideal S1024x128 .f32)

/-- The scaled weights as loaded. -/
abbrev WB : Vec Ideal S1088x4096 .bf16 :=
  View.readAt (Elt Ideal) scM0_0.view (Rect.unit (s := S1088x4096) ![0, 0] S1088x4096.size inb_S1088x4096_S1088x4096_0_0).toLoadRect ((Memref.isWhole_whole _ : scM0_0.IsWhole).unread xs0)

/-- The scaled activations as loaded. -/
abbrev HB : Vec Ideal S512x4096 .bf16 :=
  scM0_2.view.readCov (runB m c t h0 xs0 xs1).2.2.2.2.2.2.1 (Rect.unit (s := S512x4096) ![0, 0] S512x4096.size inb_S512x4096_S512x4096_0_0).toLoadRect

/-- The layer-norm columns of the groups, as loaded. -/
def γB (g : Fin 8) : Vec Ideal S128x128 .f32 :=
  match g with
  | 0 => View.readAt (Elt Ideal) scM0_1.view (Rect.unit (s := S1024x128) ![0, 0] S128x128.size inb_S1024x128_S128x128_0_0).toLoadRect ((Memref.isWhole_whole _ : scM0_1.IsWhole).unread xs1)
  | 1 => View.readAt (Elt Ideal) scM0_1.view (Rect.unit (s := S1024x128) ![128, 0] S128x128.size inb_S1024x128_S128x128_128_0).toLoadRect ((Memref.isWhole_whole _ : scM0_1.IsWhole).unread xs1)
  | 2 => View.readAt (Elt Ideal) scM0_1.view (Rect.unit (s := S1024x128) ![256, 0] S128x128.size inb_S1024x128_S128x128_256_0).toLoadRect ((Memref.isWhole_whole _ : scM0_1.IsWhole).unread xs1)
  | 3 => View.readAt (Elt Ideal) scM0_1.view (Rect.unit (s := S1024x128) ![384, 0] S128x128.size inb_S1024x128_S128x128_384_0).toLoadRect ((Memref.isWhole_whole _ : scM0_1.IsWhole).unread xs1)
  | 4 => View.readAt (Elt Ideal) scM0_1.view (Rect.unit (s := S1024x128) ![512, 0] S128x128.size inb_S1024x128_S128x128_512_0).toLoadRect ((Memref.isWhole_whole _ : scM0_1.IsWhole).unread xs1)
  | 5 => View.readAt (Elt Ideal) scM0_1.view (Rect.unit (s := S1024x128) ![640, 0] S128x128.size inb_S1024x128_S128x128_640_0).toLoadRect ((Memref.isWhole_whole _ : scM0_1.IsWhole).unread xs1)
  | 6 => View.readAt (Elt Ideal) scM0_1.view (Rect.unit (s := S1024x128) ![768, 0] S128x128.size inb_S1024x128_S128x128_768_0).toLoadRect ((Memref.isWhole_whole _ : scM0_1.IsWhole).unread xs1)
  | 7 => View.readAt (Elt Ideal) scM0_1.view (Rect.unit (s := S1024x128) ![896, 0] S128x128.size inb_S1024x128_S128x128_896_0).toLoadRect ((Memref.isWhole_whole _ : scM0_1.IsWhole).unread xs1)
/-- The four tiles of the key rows, as loaded. -/
def sB (g : Fin 4) : Vec Ideal S64x128 .f32 :=
  match g with
  | 0 => scM0_3.view.readCov (runB m c t h0 xs0 xs1).2.2.2.2.2.2.2.1 (Rect.unit (s := S64x512) ![0, 0] S64x128.size inb_S64x512_S64x128_0_0).toLoadRect
  | 1 => scM0_3.view.readCov (runB m c t h0 xs0 xs1).2.2.2.2.2.2.2.1 (Rect.unit (s := S64x512) ![0, 128] S64x128.size inb_S64x512_S64x128_0_128).toLoadRect
  | 2 => scM0_3.view.readCov (runB m c t h0 xs0 xs1).2.2.2.2.2.2.2.1 (Rect.unit (s := S64x512) ![0, 256] S64x128.size inb_S64x512_S64x128_0_256).toLoadRect
  | 3 => scM0_3.view.readCov (runB m c t h0 xs0 xs1).2.2.2.2.2.2.2.1 (Rect.unit (s := S64x512) ![0, 384] S64x128.size inb_S64x512_S64x128_0_384).toLoadRect
/-- Every other point stores the key features in their scratch. -/
theorem ropeS_B : (runB m c t h0 xs0 xs1).2.2.2.2.2.2.2.1 = [⟨Rect.unit ![0, 0] S64x512.size inb_S64x512_S64x512_0_0, k0_pay591 (k0_pay409 (WB xs0) (HB m c t h0 xs0 xs1))⟩] := rfl

/-- Every other point's piece of scales. -/
theorem scales_B : (runB m c t h0 xs0 xs1).2.2.2.1 = scalesL (WB xs0) (HB m c t h0 xs0 xs1) (γB xs1) := rfl

/-- Every other point's pieces of codes. -/
theorem codes_B : (runB m c t h0 xs0 xs1).2.2.1 = codesL (WB xs0) (HB m c t h0 xs0 xs1) (γB xs1) := rfl

/-- Every other point's pieces of rotated keys. -/
theorem rope_B : (runB m c t h0 xs0 xs1).2.1 = ropeL (posV m c t) (frqV m c t) (sB m c t h0 xs0 xs1) := rfl

/-- Every other point's pieces of records. -/
theorem rec_B : (runB m c t h0 xs0 xs1).1 = recL (WB xs0) (HB m c t h0 xs0 xs1) (γB xs1) (posV m c t) (frqV m c t) (sB m c t h0 xs0 xs1) := rfl
end B

section A
variable (c : Dev nD) (t : Fin cfg0.N) (h0 : t.val % 48 = 0)

/-- The scaled weights as loaded. -/
abbrev WA : Vec Ideal S1088x4096 .bf16 :=
  scM0_0.view.readCov (runA m c t h0).2.2.2.2.1 (Rect.unit (s := S1088x4096) ![0, 0] S1088x4096.size inb_S1088x4096_S1088x4096_0_0).toLoadRect

/-- The scaled activations as loaded. -/
abbrev HA : Vec Ideal S512x4096 .bf16 :=
  scM0_2.view.readCov (runA m c t h0).2.2.2.2.2.2.1 (Rect.unit (s := S512x4096) ![0, 0] S512x4096.size inb_S512x4096_S512x4096_0_0).toLoadRect

/-- The layer-norm columns of the groups, as loaded. -/
def γA (g : Fin 8) : Vec Ideal S128x128 .f32 :=
  match g with
  | 0 => scM0_1.view.readCov (runA m c t h0).2.2.2.2.2.1 (Rect.unit (s := S1024x128) ![0, 0] S128x128.size inb_S1024x128_S128x128_0_0).toLoadRect
  | 1 => scM0_1.view.readCov (runA m c t h0).2.2.2.2.2.1 (Rect.unit (s := S1024x128) ![128, 0] S128x128.size inb_S1024x128_S128x128_128_0).toLoadRect
  | 2 => scM0_1.view.readCov (runA m c t h0).2.2.2.2.2.1 (Rect.unit (s := S1024x128) ![256, 0] S128x128.size inb_S1024x128_S128x128_256_0).toLoadRect
  | 3 => scM0_1.view.readCov (runA m c t h0).2.2.2.2.2.1 (Rect.unit (s := S1024x128) ![384, 0] S128x128.size inb_S1024x128_S128x128_384_0).toLoadRect
  | 4 => scM0_1.view.readCov (runA m c t h0).2.2.2.2.2.1 (Rect.unit (s := S1024x128) ![512, 0] S128x128.size inb_S1024x128_S128x128_512_0).toLoadRect
  | 5 => scM0_1.view.readCov (runA m c t h0).2.2.2.2.2.1 (Rect.unit (s := S1024x128) ![640, 0] S128x128.size inb_S1024x128_S128x128_640_0).toLoadRect
  | 6 => scM0_1.view.readCov (runA m c t h0).2.2.2.2.2.1 (Rect.unit (s := S1024x128) ![768, 0] S128x128.size inb_S1024x128_S128x128_768_0).toLoadRect
  | 7 => scM0_1.view.readCov (runA m c t h0).2.2.2.2.2.1 (Rect.unit (s := S1024x128) ![896, 0] S128x128.size inb_S1024x128_S128x128_896_0).toLoadRect
/-- The four tiles of the key rows, as loaded. -/
def sA (g : Fin 4) : Vec Ideal S64x128 .f32 :=
  match g with
  | 0 => scM0_3.view.readCov (runA m c t h0).2.2.2.2.2.2.2.1 (Rect.unit (s := S64x512) ![0, 0] S64x128.size inb_S64x512_S64x128_0_0).toLoadRect
  | 1 => scM0_3.view.readCov (runA m c t h0).2.2.2.2.2.2.2.1 (Rect.unit (s := S64x512) ![0, 128] S64x128.size inb_S64x512_S64x128_0_128).toLoadRect
  | 2 => scM0_3.view.readCov (runA m c t h0).2.2.2.2.2.2.2.1 (Rect.unit (s := S64x512) ![0, 256] S64x128.size inb_S64x512_S64x128_0_256).toLoadRect
  | 3 => scM0_3.view.readCov (runA m c t h0).2.2.2.2.2.2.2.1 (Rect.unit (s := S64x512) ![0, 384] S64x128.size inb_S64x512_S64x128_0_384).toLoadRect
/-- The first point stores the key features in their scratch. -/
theorem ropeS_A : (runA m c t h0).2.2.2.2.2.2.2.1 = [⟨Rect.unit ![0, 0] S64x512.size inb_S64x512_S64x512_0_0, k0_pay591 (k0_pay409 (WA m c t h0) (HA m c t h0))⟩] := rfl

/-- The first point's piece of scales. -/
theorem scales_A : (runA m c t h0).2.2.2.1 = scalesL (WA m c t h0) (HA m c t h0) (γA m c t h0) := rfl

/-- The first point's pieces of codes. -/
theorem codes_A : (runA m c t h0).2.2.1 = codesL (WA m c t h0) (HA m c t h0) (γA m c t h0) := rfl

/-- The first point's pieces of rotated keys. -/
theorem rope_A : (runA m c t h0).2.1 = ropeL (posV m c t) (frqV m c t) (sA m c t h0) := rfl

/-- The first point's pieces of records. -/
theorem rec_A : (runA m c t h0).1 = recL (WA m c t h0) (HA m c t h0) (γA m c t h0) (posV m c t) (frqV m c t) (sA m c t h0) := rfl
end A

end Cert.Runs
end
-- ==== Proof.Scratch.lean ====
/-
  What the kernel's points find in the scratch: the weights with their block scales multiplied in and the layer-norm
  weights as columns (the first point writes them, and every point loads them), and the scaled activations.
-/
module

public import proofs.«01_k».proof.Proof.Runs
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.Scratch

open Cert.KernelIdeal Cert.KernelIdeal.Gen Cert.KernelIdeal.Value Idealize.ShloMosaic Idealize.ShloMosaic.TcCoe Idealize.SL.Sem
open Idealize.ShloMosaic.Pipeline (Dat)
open Cert.Runs

/-- The weights (row `n` = output feature, transposed) times the scale of their 128 × 128 block. -/
def wB (x1 : Vec Ideal S9x32 .f32) (x4 : Vec Ideal S1088x4096 .fp8e4m3) : Vec Ideal S1088x4096 .bf16 :=
  fun y => x4 y * x1 (ix2 ⟨(y 0).val / 128, by have := (y 0).isLt; simp at this; omega⟩
    ⟨(y 1).val / 128, by have := (y 1).isLt; simp at this; omega⟩)

/-- One piece of the scaled weights: a block of 128 rows times its scale. -/
def wP (s : Elt Ideal .f32) (w : Vec Ideal S128x128 .fp8e4m3) : FVec Ideal S128x128 .bf16 :=
  shapeCast S128x128 (mulf (extf .bf16 (shapeCast S128x128 w shapeCasts_S128x128_S128x128) bitsLt_fp8e4m3_bf16)
    (truncf .bf16 (broadcast S128x128 s) bitsLt_bf16_f32)) shapeCasts_S128x128_S128x128

/-- One piece of the scaled weights in the last row block, of 64 rows. -/
def wP' (s : Elt Ideal .f32) (w : Vec Ideal S64x128 .fp8e4m3) : FVec Ideal S64x128 .bf16 :=
  shapeCast S64x128 (mulf (extf .bf16 (shapeCast S64x128 w shapeCasts_S64x128_S64x128) bitsLt_fp8e4m3_bf16)
    (truncf .bf16 (broadcast S64x128 s) bitsLt_bf16_f32)) shapeCasts_S64x128_S64x128

/-- The layer-norm weights as columns. -/
def gC (x5 : Vec Ideal S1x1024 .f32) : Vec Ideal S1024x128 .f32 := fun y => x5 (ix2 0 ⟨(y 0).val, (y 0).isLt⟩)

/-- One piece of the layer-norm columns. -/
def gP (v : Vec Ideal S1x128 .f32) : FVec Ideal S128x128 .f32 :=
  shapeCast S128x128 (transpose S128x128 [1, 0] (broadcastTo S128x128 (shapeCast S1x128 (shapeCast S1x128 v
    shapeCasts_S1x128_S1x128) shapeCasts_S1x128_S1x128) broadcasts_S1x128_S128x128)
    transposes_S128x128_p1_0_S128x128) shapeCasts_S128x128_S128x128

/-- The activations times their scales, one scale per position and 128 features. -/
def hB (x2 : Vec Ideal S1x512x4096 .fp8e4m3) (x3 : Vec Ideal S1x32x512 .f32) : Vec Ideal S512x4096 .bf16 :=
  fun y => x2 (ix3 0 ⟨(y 0).val, (y 0).isLt⟩ ⟨(y 1).val, (y 1).isLt⟩)
    * x3 (ix3 0 ⟨(y 1).val / 128, by have := (y 1).isLt; simp at this; omega⟩ ⟨(y 0).val, (y 0).isLt⟩)

/-- One piece of the scaled activations. -/
def hP (k : ℕ) (hk : S512x32.Slices ![0, k] S512x1) (v5 : Vec Ideal S1x32x512 .f32) (w : Vec Ideal S1x512x128 .fp8e4m3) :
    FVec Ideal S512x128 .bf16 :=
  shapeCast S512x128 (mulf (extf .bf16 (shapeCast S512x128 w shapeCasts_S1x512x128_S512x128) bitsLt_fp8e4m3_bf16)
    (broadcastTo S512x128 (extractStridedSlice S512x1 ![0, k] (k0_pay368 v5) hk) broadcasts_S512x1_S512x128))
    shapeCasts_S512x128_S512x128

/-- A piece of layer-norm columns holds the weights of its rows. -/
theorem gP_val (v : Vec Ideal S1x128 .f32) (i l : Fin 128) : gP v (ix2 i l) = v (ix2 0 i) := by
  pointwise [gP]

/-- A piece of scaled activations holds activations times scales. -/
theorem hP_val (k : ℕ) (hk0 : k < 32) (hk) (v5 : Vec Ideal S1x32x512 .f32) (w : Vec Ideal S1x512x128 .fp8e4m3) (i : Fin 512) (l : Fin 128) :
    hP k hk v5 w (ix2 i l) = w (ix3 0 i l) * v5 (ix3 0 ⟨k, hk0⟩ i) := by
  pointwise [hP, k0_pay368]

section
variable (M1 : Memref sig .tc .smem S9x32 .f32) (h1 : M1.IsWhole) (M4 : Memref sig .tc .vmem S1088x4096 .fp8e4m3) (h4 : M4.IsWhole)
  (x1 : Vec Ideal S9x32 .f32) (x4 : Vec Ideal S1088x4096 .fp8e4m3)

/-- A piece of 128 rows is the block of the scaled weights it is stored at. -/
theorem wP_apply (a b o0 o1 : ℕ) (e0 : o0 = 128 * a) (e1 : o1 = 128 * b) (inb1 inb4 pos) (x : S128x128.Idx) :
    wP (View.readAt (Elt Ideal) M1.view (Rect.unit (s := S9x32) ![a, b] S1x1.size inb1).toLoadRect (h1.unread x1) (Shape.Idx.first pos))
      (View.readAt (Elt Ideal) M4.view (Rect.unit (s := S1088x4096) ![o0, o1] S128x128.size inb4).toLoadRect (h4.unread x4)) x
      = wB x1 x4 ((Rect.unit (s := S1088x4096) ![o0, o1] S128x128.size inb4).emb x) := by
  subst e0 e1
  unfold wP
  rw [shapeCast_self, shapeCast_self]
  change (View.readAt (Elt Ideal) M4.view (Rect.unit (s := S1088x4096) ![128 * a, 128 * b] S128x128.size inb4).toLoadRect (h4.unread x4) x
    * View.readAt (Elt Ideal) M1.view (Rect.unit (s := S9x32) ![a, b] S1x1.size inb1).toLoadRect (h1.unread x1) (Shape.Idx.first pos) : EReal) = _
  rw [Memref.IsWhole.readAt_unread, Memref.IsWhole.readAt_unread]
  unfold wB
  refine congrArg₂ (· * ·) rfl (congrArg x1 ?_)
  funext d
  have h0 : (x 0).val < 128 := (x 0).isLt
  have h1 : (x 1).val < 128 := (x 1).isLt
  match d with
  | ⟨0, _⟩ => apply Fin.ext; simp [Rect.emb, LoadRect.idx, Rect.unit, ix2, Shape.Idx.first]; omega
  | ⟨1, _⟩ => apply Fin.ext; simp [Rect.emb, LoadRect.idx, Rect.unit, ix2, Shape.Idx.first]; omega

/-- A piece of 64 rows is the block of the scaled weights it is stored at. -/
theorem wP'_apply (b o1 : ℕ) (e1 : o1 = 128 * b) (inb1 inb4 pos) (x : S64x128.Idx) :
    wP' (View.readAt (Elt Ideal) M1.view (Rect.unit (s := S9x32) ![8, b] S1x1.size inb1).toLoadRect (h1.unread x1) (Shape.Idx.first pos))
      (View.readAt (Elt Ideal) M4.view (Rect.unit (s := S1088x4096) ![1024, o1] S64x128.size inb4).toLoadRect (h4.unread x4)) x
      = wB x1 x4 ((Rect.unit (s := S1088x4096) ![1024, o1] S64x128.size inb4).emb x) := by
  subst e1
  unfold wP'
  rw [shapeCast_self, shapeCast_self]
  change (View.readAt (Elt Ideal) M4.view (Rect.unit (s := S1088x4096) ![1024, 128 * b] S64x128.size inb4).toLoadRect (h4.unread x4) x
    * View.readAt (Elt Ideal) M1.view (Rect.unit (s := S9x32) ![8, b] S1x1.size inb1).toLoadRect (h1.unread x1) (Shape.Idx.first pos) : EReal) = _
  rw [Memref.IsWhole.readAt_unread, Memref.IsWhole.readAt_unread]
  unfold wB
  refine congrArg₂ (· * ·) rfl (congrArg x1 ?_)
  funext d
  have h0 : (x 0).val < 64 := (x 0).isLt
  have h1 : (x 1).val < 128 := (x 1).isLt
  match d with
  | ⟨0, _⟩ => apply Fin.ext; simp [Rect.emb, LoadRect.idx, Rect.unit, ix2, Shape.Idx.first]; omega
  | ⟨1, _⟩ => apply Fin.ext; simp [Rect.emb, LoadRect.idx, Rect.unit, ix2, Shape.Idx.first]; omega

end

section
variable (M5 : Memref sig .tc .vmem S1x1024 .f32) (h5 : M5.IsWhole) (x5 : Vec Ideal S1x1024 .f32)
  (M2 : Memref sig .tc .vmem S1x512x4096 .fp8e4m3) (h2 : M2.IsWhole) (M3 : Memref sig .tc .vmem S1x32x512 .f32) (h3 : M3.IsWhole)
  (x2 : Vec Ideal S1x512x4096 .fp8e4m3) (x3 : Vec Ideal S1x32x512 .f32)

/-- A piece of layer-norm columns is the block of them it is stored at. -/
theorem gP_apply (o : ℕ) (inb5 inb) (x : S128x128.Idx) :
    gP (View.readAt (Elt Ideal) M5.view (Rect.unit (s := S1x1024) ![0, o] S1x128.size inb5).toLoadRect (h5.unread x5)) x
      = gC x5 ((Rect.unit (s := S1024x128) ![o, 0] S128x128.size inb).emb x) := by
  obtain ⟨i, l, rfl⟩ : ∃ i l : Fin 128, x = ix2 i l := ⟨x 0, x 1, by funext d; match d with | ⟨0, _⟩ => rfl | ⟨1, _⟩ => rfl⟩
  rw [gP_val]
  refine (Memref.IsWhole.readAt_unread h5 x5 _ _).trans ?_
  refine congrArg x5 ?_
  funext d
  match d with
  | ⟨0, _⟩ => apply Fin.ext; simp [Rect.emb, LoadRect.idx, Rect.unit, ix2]
  | ⟨1, _⟩ => apply Fin.ext; simp [Rect.emb, LoadRect.idx, Rect.unit, ix2]

/-- A piece of scaled activations is the block of them it is stored at. -/
theorem hP_apply (k o : ℕ) (hk0 : k < 32) (e : o = 128 * k) (hk) (inb3 inb2 inb) (x : S512x128.Idx) :
    hP k hk (View.readAt (Elt Ideal) M3.view (Rect.unit (s := S1x32x512) ![0, 0, 0] S1x32x512.size inb3).toLoadRect (h3.unread x3))
      (View.readAt (Elt Ideal) M2.view (Rect.unit (s := S1x512x4096) ![0, 0, o] S1x512x128.size inb2).toLoadRect (h2.unread x2)) x
      = hB x2 x3 ((Rect.unit (s := S512x4096) ![0, o] S512x128.size inb).emb x) := by
  subst e
  obtain ⟨i, l, rfl⟩ : ∃ (i : Fin 512) (l : Fin 128), x = ix2 i l := ⟨x 0, x 1, by funext d; match d with | ⟨0, _⟩ => rfl | ⟨1, _⟩ => rfl⟩
  rw [hP_val k hk0]
  refine (congrArg₂ (· * ·) (Memref.IsWhole.readAt_unread h2 x2 _ _) (Memref.IsWhole.readAt_unread h3 x3 _ _)).trans ?_
  unfold hB
  refine congrArg₂ (· * ·) (congrArg x2 ?_) (congrArg x3 ?_)
  · funext d
    match d with
    | ⟨0, _⟩ => apply Fin.ext; simp [Rect.emb, LoadRect.idx, Rect.unit, ix2, ix3]
    | ⟨1, _⟩ => apply Fin.ext; simp [Rect.emb, LoadRect.idx, Rect.unit, ix2, ix3]
    | ⟨2, _⟩ => apply Fin.ext; simp [Rect.emb, LoadRect.idx, Rect.unit, ix2, ix3]
  · funext d
    match d with
    | ⟨0, _⟩ => apply Fin.ext; simp [Rect.emb, LoadRect.idx, Rect.unit, ix2, ix3]
    | ⟨1, _⟩ => apply Fin.ext; simp [Rect.emb, LoadRect.idx, Rect.unit, ix2, ix3]; omega
    | ⟨2, _⟩ => apply Fin.ext; simp [Rect.emb, LoadRect.idx, Rect.unit, ix2, ix3]
end

variable (m : (ℓ : Loc nD τ sig) → Buf (Elt Ideal) ℓ) (ρ : Dev nD → PrngReg)

/-- A load of a whole two-axis buffer reads each element where it is. -/
theorem idx_whole2 {n0 n1 : ℕ} (inb) (j : (⟨2, ![n0, n1]⟩ : Shape).Idx) :
    (Rect.unit (s := ⟨2, ![n0, n1]⟩) ![0, 0] (⟨2, ![n0, n1]⟩ : Shape).size inb).toLoadRect.idx j = j := by
  funext d
  match d with
  | ⟨0, _⟩ => apply Fin.ext; simp [LoadRect.idx, Rect.unit]
  | ⟨1, _⟩ => apply Fin.ext; simp [LoadRect.idx, Rect.unit]

/-- A list of blocks of `G` grows by a block of `G`. -/
theorem piecesOf_cons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

set_option maxHeartbeats 4000000 in
/-- The first point's stores of scaled weights are blocks of them. -/
theorem pieces_w (c : Dev nD) (t : Fin cfg0.N) (h0 : t.val % 48 = 0) :
    View.PiecesOf (wB (iblk m c 1 t) (iblk m c 4 t)) (runA m c t h0).2.2.2.2.1 := by
  unfold runA
  frame_open
  iterate 32 refine piecesOf_cons (fun x => wP'_apply (ms0_1 t) (hs0_1 t) (ms0_4 t) (hs0_4 t) (iblk m c 1 t) (iblk m c 4 t) _ _ (by rfl) _ _ _ x) ?_
  iterate 256 refine piecesOf_cons (fun x => wP_apply (ms0_1 t) (hs0_1 t) (ms0_4 t) (hs0_4 t) (iblk m c 1 t) (iblk m c 4 t) _ _ _ _ (by rfl) (by rfl) _ _ _ x) ?_
  trivial

set_option maxHeartbeats 4000000 in
/-- The first point's stores of layer-norm columns are blocks of them. -/
theorem pieces_g (c : Dev nD) (t : Fin cfg0.N) (h0 : t.val % 48 = 0) :
    View.PiecesOf (gC (iblk m c 5 t)) (runA m c t h0).2.2.2.2.2.1 := by
  unfold runA
  frame_open
  iterate 8 refine piecesOf_cons (fun x => gP_apply (ms0_5 t) (hs0_5 t) (iblk m c 5 t) _ _ (by decide) x) ?_
  trivial

set_option maxHeartbeats 4000000 in
/-- The first point's stores of scaled activations are blocks of them. -/
theorem pieces_hA (c : Dev nD) (t : Fin cfg0.N) (h0 : t.val % 48 = 0) :
    View.PiecesOf (hB (iblk m c 2 t) (iblk m c 3 t)) (runA m c t h0).2.2.2.2.2.2.1 := by
  unfold runA
  frame_open
  iterate 32 refine piecesOf_cons (fun x => hP_apply (ms0_2 t) (hs0_2 t) (ms0_3 t) (hs0_3 t) (iblk m c 2 t) (iblk m c 3 t) _ _ (by decide) (by rfl) _ _ _ (by decide) x) ?_
  trivial

set_option maxHeartbeats 4000000 in
/-- Every other point's stores of scaled activations are blocks of them. -/
theorem pieces_hB (c : Dev nD) (t : Fin cfg0.N) (h0 : ¬ t.val % 48 = 0) (xs0 : Vec Ideal S1088x4096 .bf16) (xs1 : Vec Ideal S1024x128 .f32) :
    View.PiecesOf (hB (iblk m c 2 t) (iblk m c 3 t)) (runB m c t h0 xs0 xs1).2.2.2.2.2.2.1 := by
  unfold runB
  frame_open
  iterate 32 refine piecesOf_cons (fun x => hP_apply (ms0_2 t) (hs0_2 t) (ms0_3 t) (hs0_3 t) (iblk m c 2 t) (iblk m c 3 t) _ _ (by decide) (by rfl) _ _ _ (by decide) x) ?_
  trivial

/-- The first point's stores of scaled weights cover the scratch. -/
theorem canon_w (c : Dev nD) (t : Fin cfg0.N) (h0 : t.val % 48 = 0) :
    View.canon (runA m c t h0).2.2.2.2.1 = wB (iblk m c 1 t) (iblk m c 4 t) :=
  funext fun y => View.canon_apply_of_pieces _ _ (pieces_w m c t h0).mem y (scover0_A_0 ..)

/-- The first point's stores of layer-norm columns cover the scratch. -/
theorem canon_g (c : Dev nD) (t : Fin cfg0.N) (h0 : t.val % 48 = 0) :
    View.canon (runA m c t h0).2.2.2.2.2.1 = gC (iblk m c 5 t) :=
  funext fun y => View.canon_apply_of_pieces _ _ (pieces_g m c t h0).mem y (scover0_A_1 ..)

/-- The first point's stores of scaled activations cover the scratch. -/
theorem canon_hA (c : Dev nD) (t : Fin cfg0.N) (h0 : t.val % 48 = 0) :
    View.canon (runA m c t h0).2.2.2.2.2.2.1 = hB (iblk m c 2 t) (iblk m c 3 t) :=
  funext fun y => View.canon_apply_of_pieces _ _ (pieces_hA m c t h0).mem y
    (View.cover_of_tiledL (runA m c t h0).2.2.2.2.2.2.1 S512x128.size (by sl_kernel_rfl) y)

/-- So do every other point's. -/
theorem canon_hB (c : Dev nD) (t : Fin cfg0.N) (h0 : ¬ t.val % 48 = 0) (xs0 : Vec Ideal S1088x4096 .bf16) (xs1 : Vec Ideal S1024x128 .f32) :
    View.canon (runB m c t h0 xs0 xs1).2.2.2.2.2.2.1 = hB (iblk m c 2 t) (iblk m c 3 t) :=
  funext fun y => View.canon_apply_of_pieces _ _ (pieces_hB m c t h0 xs0 xs1).mem y
    (View.cover_of_tiledL (runB m c t h0 xs0 xs1).2.2.2.2.2.2.1 S512x128.size (by sl_kernel_rfl) y)

end Cert.Scratch
end
-- ==== Proof.Loads.lean ====
/-
  What the body's loads of the scratch read.
-/
module

public import proofs.«01_k».proof.Proof.Scratch
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.Scratch

open Cert.KernelIdeal Cert.KernelIdeal.Gen Cert.KernelIdeal.Value Idealize.ShloMosaic Idealize.ShloMosaic.TcCoe Idealize.SL.Sem
open Idealize.ShloMosaic.Pipeline (Dat)
open Cert.Runs Cert.Stages

variable (m : (ℓ : Loc nD τ sig) → Buf (Elt Ideal) ℓ) (ρ : Dev nD → PrngReg)

/-- Where a box of a two-axis buffer holds its element. -/
theorem idx_box2 {n0 n1 r0 r1 : ℕ} (o0 o1 : ℕ) (inb) (i : Fin r0) (l : Fin r1) (h0 : o0 + i.val < n0) (h1 : o1 + l.val < n1) :
    (Rect.unit (s := ⟨2, ![n0, n1]⟩) ![o0, o1] (⟨2, ![r0, r1]⟩ : Shape).size inb).toLoadRect.idx (ix2 i l) = ix2 ⟨o0 + i.val, h0⟩ ⟨o1 + l.val, h1⟩ := by
  funext d
  match d with
  | ⟨0, _⟩ => apply Fin.ext; simp [LoadRect.idx, Rect.unit, ix2]
  | ⟨1, _⟩ => apply Fin.ext; simp [LoadRect.idx, Rect.unit, ix2]

section Abstract
variable {κ : Kind} {sp : Space} {e : EltTy} {n0 n1 : ℕ}

/-- A load of a whole scratch is what its stores left. -/
theorem readCov_whole2 (v : View sig κ sp ⟨2, ![n0, n1]⟩ e) (L : List (View.Piece (Elt Ideal) ⟨2, ![n0, n1]⟩ e)) (inb) :
    v.readCov L (Rect.unit (s := ⟨2, ![n0, n1]⟩) ![0, 0] (⟨2, ![n0, n1]⟩ : Shape).size inb).toLoadRect = View.canon L := by
  rw [View.readCov_eq_canon']
  funext j
  exact congrArg (View.canon L) (idx_whole2 inb j)

/-- A load of a box of a scratch is what its stores left there. -/
theorem readCov_box2 {r0 r1 : ℕ} (v : View sig κ sp ⟨2, ![n0, n1]⟩ e) (L : List (View.Piece (Elt Ideal) ⟨2, ![n0, n1]⟩ e)) (o0 o1 : ℕ) (inb)
    (i : Fin r0) (l : Fin r1) (k0 k1 : ℕ) (e0 : o0 + i.val = k0) (e1 : o1 + l.val = k1) (h0 : k0 < n0) (h1 : k1 < n1) :
    v.readCov L (Rect.unit (s := ⟨2, ![n0, n1]⟩) ![o0, o1] (⟨2, ![r0, r1]⟩ : Shape).size inb).toLoadRect (ix2 i l)
      = View.canon L (ix2 ⟨k0, h0⟩ ⟨k1, h1⟩) := by
  subst e0 e1
  rw [View.readCov_eq_canon']
  exact congrArg (View.canon L) (idx_box2 o0 o1 inb i l h0 h1)
end Abstract

/-- The scaled weights as the first point loads them. -/
theorem WA_eq (c : Dev nD) (t : Fin cfg0.N) (h0 : t.val % 48 = 0) : WA m c t h0 = wB (iblk m c 1 t) (iblk m c 4 t) :=
  (readCov_whole2 _ _ _).trans (canon_w m c t h0)

/-- The scaled activations as the first point loads them. -/
theorem HA_eq (c : Dev nD) (t : Fin cfg0.N) (h0 : t.val % 48 = 0) : HA m c t h0 = hB (iblk m c 2 t) (iblk m c 3 t) :=
  (readCov_whole2 _ _ _).trans (canon_hA m c t h0)

/-- The scaled activations as every other point loads them. -/
theorem HB_eq (c : Dev nD) (t : Fin cfg0.N) (h0 : ¬ t.val % 48 = 0) (xs0 : Vec Ideal S1088x4096 .bf16) (xs1 : Vec Ideal S1024x128 .f32) :
    HB m c t h0 xs0 xs1 = hB (iblk m c 2 t) (iblk m c 3 t) :=
  (readCov_whole2 _ _ _).trans (canon_hB m c t h0 xs0 xs1)

/-- The scaled weights as every other point loads them: what the scratch holds. -/
theorem WB_eq (xs0 : Vec Ideal S1088x4096 .bf16) : WB xs0 = xs0 := by
  funext j
  exact (Memref.IsWhole.readAt_unread _ xs0 (Rect.unit (s := S1088x4096) ![0, 0] S1088x4096.size inb_S1088x4096_S1088x4096_0_0).toLoadRect j).trans
    (congrArg xs0 (idx_whole2 _ j))

/-- A box of 128 layer-norm columns, as every other point loads it. -/
theorem γB_piece (xs1 : Vec Ideal S1024x128 .f32) (o : ℕ) (inb) (g : Fin 8) (ho : o = 128 * g.val) (i l : Fin 128) :
    View.readAt (Elt Ideal) scM0_1.view (Rect.unit (s := S1024x128) ![o, 0] S128x128.size inb).toLoadRect
      ((Memref.isWhole_whole _ : scM0_1.IsWhole).unread xs1) (ix2 i l) = xs1 (ix2 ⟨128 * g.val + i.val, by omega⟩ l) := by
  subst ho
  refine (Memref.IsWhole.readAt_unread _ xs1 _ _).trans (congrArg xs1 ?_)
  refine (idx_box2 (128 * g.val) 0 inb i l (by omega) (by omega)).trans ?_
  simp only [Nat.zero_add]

/-- The layer-norm columns as every other point loads them. -/
theorem γB_apply (xs1 : Vec Ideal S1024x128 .f32) (g : Fin 8) (i l : Fin 128) :
    γB xs1 g (ix2 i l) = xs1 (ix2 ⟨128 * g.val + i.val, by omega⟩ l) := by
  match g with
  | 0 | 1 | 2 | 3 | 4 | 5 | 6 | 7 => exact γB_piece xs1 _ _ _ (by rfl) i l

set_option maxHeartbeats 2000000 in
/-- The layer-norm columns as the first point loads them. -/
theorem γA_apply (c : Dev nD) (t : Fin cfg0.N) (h0 : t.val % 48 = 0) (g : Fin 8) (i l : Fin 128) :
    γA m c t h0 g (ix2 i l) = gC (iblk m c 5 t) (ix2 ⟨128 * g.val + i.val, by omega⟩ l) := by
  rw [← congrFun (canon_g m c t h0) _]
  match g with
  | 0 | 1 | 2 | 3 | 4 | 5 | 6 | 7 =>
    exact readCov_box2 scM0_1.view (runA m c t h0).2.2.2.2.2.1 _ _ _ i l _ _ (by rfl) (Nat.zero_add _) _ _

/-- The key rows of the product as the body stores them. -/
theorem keys_apply (W : Vec Ideal S1088x4096 .bf16) (H : Vec Ideal S512x4096 .bf16) (n : Fin 64) (l : Fin 512) :
    k0_pay591 (k0_pay409 W H) (ix2 n l) = kv W H ⟨1024 + n.val, by omega⟩ l := by
  rw [← kv_apply]
  pointwise [k0_pay591]

/-- The tiles of the key rows as every other point loads them. -/
theorem sB_apply (c : Dev nD) (t : Fin cfg0.N) (h0 : ¬ t.val % 48 = 0) (xs0 : Vec Ideal S1088x4096 .bf16) (xs1 : Vec Ideal S1024x128 .f32)
    (g : Fin 4) (n : Fin 64) (l : Fin 128) :
    sB m c t h0 xs0 xs1 g (ix2 n l) = kv (WB xs0) (HB m c t h0 xs0 xs1) ⟨1024 + n.val, by omega⟩ ⟨128 * g.val + l.val, by omega⟩ := by
  have e : View.canon (runB m c t h0 xs0 xs1).2.2.2.2.2.2.2.1 = k0_pay591 (k0_pay409 (WB xs0) (HB m c t h0 xs0 xs1)) := by
    rw [ropeS_B]
    exact View.canon_cons_unit_lit _ _ _ (by decide)
  rw [← keys_apply, ← e]
  match g with
  | 0 | 1 | 2 | 3 =>
    exact readCov_box2 scM0_3.view (runB m c t h0 xs0 xs1).2.2.2.2.2.2.2.1 _ _ _ n l _ _ (Nat.zero_add _) (by rfl) _ _

/-- The tiles of the key rows as the first point loads them. -/
theorem sA_apply (c : Dev nD) (t : Fin cfg0.N) (h0 : t.val % 48 = 0) (g : Fin 4) (n : Fin 64) (l : Fin 128) :
    sA m c t h0 g (ix2 n l) = kv (WA m c t h0) (HA m c t h0) ⟨1024 + n.val, by omega⟩ ⟨128 * g.val + l.val, by omega⟩ := by
  have e : View.canon (runA m c t h0).2.2.2.2.2.2.2.1 = k0_pay591 (k0_pay409 (WA m c t h0) (HA m c t h0)) := by
    rw [ropeS_A]
    exact View.canon_cons_unit_lit _ _ _ (by decide)
  rw [← keys_apply, ← e]
  match g with
  | 0 | 1 | 2 | 3 =>
    exact readCov_box2 scM0_3.view (runA m c t h0).2.2.2.2.2.2.2.1 _ _ _ n l _ _ (Nat.zero_add _) (by rfl) _ _

end Cert.Scratch
end
-- ==== Proof.Freq.lean ====
/-
  The frequencies of the rotation.
-/
module

public import Idealize.ShloMosaic.PureOps.Ideal

@[expose] public section

noncomputable section

namespace Cert.Spec

open Idealize.ShloMosaic

/-- The frequency of a pair of key features. -/
def freq (i : Fin 32) : EReal :=
  Ideal.div 1 (Ideal.pow (Ideal.ofBits .f32 1176256512#32) (Ideal.div
    (Ideal.ofBits .f32 1073741824#32 * FloatOps.sitofp (F := Ideal) .f32 (BitVec.ofNat 32 i.val)) (Ideal.ofBits .f32 1115684864#32)))

end Cert.Spec
end
-- ==== Proof.Points.lean ====
/-
  The blocks a grid point reads, in terms of the arguments.
-/
module

public import proofs.«01_k».proof.Proof.Loads
public import proofs.«01_k».proof.Proof.Freq
public import Idealize.ShloMosaic.Lib.Claim
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.Points

open Cert.KernelIdeal Cert.KernelIdeal.Gen Cert.KernelIdeal.Value Idealize.ShloMosaic Idealize.ShloMosaic.TcCoe Idealize.SL.Sem
open Idealize.ShloMosaic.Pipeline (Dat)
open Cert.Runs Cert.Stages Cert.Scratch

variable (m : (ℓ : Loc nD τ sig) → Buf (Elt Ideal) ℓ) (ρ : Dev nD → PrngReg)

/-- Every window's block index at a point: batch row `t / 4`, sequence tile `t % 4`. -/
theorem idx : ∀ t : Fin cfg0.N, win0_0.index t = ![0] ∧ win0_1.index t = ![0, 0] ∧ win0_2.index t = ![t.val / 4, t.val % 4, 0]
    ∧ win0_3.index t = ![t.val / 4, 0, t.val % 4] ∧ win0_4.index t = ![0, 0] ∧ win0_5.index t = ![0, 0] ∧ win0_6.index t = ![0, 0] :=
  (by decide +kernel : ∀ t : Fin grid0.N, _)

/-- A point's grid coordinates. -/
theorem coords : ∀ t : Fin cfg0.N, (grid0.coords t 0).val = t.val / 4 ∧ (grid0.coords t 1).val = t.val % 4 :=
  (by decide +kernel : ∀ t : Fin grid0.N, _)

/-- Where a point loads its position. -/
theorem off1 : ∀ t : Fin cfg0.N, k0_off1 (grid0.coords t) 0 = t.val / 4 :=
  (by decide +kernel : ∀ t : Fin grid0.N, _)

/-- A point's number is below 48. -/
theorem lt48 (t : Fin cfg0.N) : t.val < 48 := lt_of_lt_of_eq t.isLt (show cfg0.N = 48 from N_0)

variable (c : Dev nD) (t : Fin cfg0.N)

/-- The positions' block is the positions. -/
theorem iblk0 : iblk m c 0 t = m ((c : Thread nD τ).loc main_arg5) := by
  blk_ext! [iblk, V, idx t]

/-- The weight scales' block is the scales transposed. -/
theorem iblk1 (i : Fin 9) (k : Fin 32) : iblk m c 1 t (ix2 i k) = m ((c : Thread nD τ).loc main_arg3) (ix2 k i) := by
  blk_ext! [iblk, V, idx t]

/-- The activations' block is a tile of a batch row. -/
theorem iblk2 (l : Fin 512) (k : Fin 4096) : iblk m c 2 t (ix3 0 l k)
    = m ((c : Thread nD τ).loc main_arg0) (ix3 ⟨t.val / 4, by have := lt48 t; omega⟩ ⟨t.val % 4 * 512 + l.val, by omega⟩ k) := by
  blk_ext! [iblk, V, idx t]

/-- The activation scales' block is a tile of a batch row, transposed. -/
theorem iblk3 (k : Fin 32) (l : Fin 512) : iblk m c 3 t (ix3 0 k l)
    = m ((c : Thread nD τ).loc main_arg1) (ix3 ⟨t.val / 4, by have := lt48 t; omega⟩ ⟨t.val % 4 * 512 + l.val, by omega⟩ k) := by
  blk_ext! [iblk, V, idx t]

/-- The weights' block is the weights transposed. -/
theorem iblk4 (n : Fin 1088) (k : Fin 4096) : iblk m c 4 t (ix2 n k) = m ((c : Thread nD τ).loc main_arg2) (ix2 k n) := by
  blk_ext! [iblk, V, idx t]

/-- The layer-norm weights' block is the weights. -/
theorem iblk5 (i : Fin 1024) : iblk m c 5 t (ix2 0 i) = m ((c : Thread nD τ).loc main_arg4) (ix1 i) := by
  blk_ext! [iblk, V, idx t]

/-- The frequencies' operand is the frequencies along the lanes. -/
theorem V12 (i : Fin 32) (l : Fin 128) : V m c main_v12 (ix2 i l) = Spec.freq i := by
  entry_read
  pointwise
  rfl

/-- And so is its block. -/
theorem iblk6 (i : Fin 32) (l : Fin 128) : iblk m c 6 t (ix2 i l) = Spec.freq i := by
  rw [← V12 m c i l]
  blk_ext [iblk, idx t]

/-- The position of a batch row. -/
def pos (b : Fin 12) : BitVec 32 := m ((c : Thread nD τ).loc main_arg5) (ix1 b)

/-- The position a point loads is its batch row's. -/
theorem posA_eq : posA m c t = pos m c ⟨t.val / 4, by have := lt48 t; omega⟩ := by
  refine (Memref.IsWhole.readAt_unread _ (iblk m c 0 t) _ _).trans ?_
  rw [iblk0]
  refine congrArg (m ((c : Thread nD τ).loc main_arg5)) ?_
  funext d
  match d with
  | ⟨0, _⟩ =>
    apply Fin.ext
    simp only [LoadRect.idx, Rect.unit, ix1]
    have h : k0_off1 (grid0.coords t) 0 = t.val / 4 := off1 t
    have z : (Shape.Idx.first (show 0 < S1.numel by decide) 0).val = 0 := by decide
    exact (congrArg₂ (fun a b => a + 1 * b) h z).trans (by omega)

/-- The positions of a point's tile, lane by lane. -/
theorem posV_apply (i : Fin 32) (l : Fin 128) : posV m c t (ix2 i l)
    = pos m c ⟨t.val / 4, by have := lt48 t; omega⟩ + BitVec.ofNat 32 (t.val % 4) * 512#32 + BitVec.ofNat 32 l.val := by
  rw [← posA_eq, ← (coords t).2]
  pointwise [k0_pay592]
  rfl

/-- The frequencies as the body holds them. -/
theorem frqV_apply (i : Fin 32) (l : Fin 128) : frqV m c t (ix2 i l) = Spec.freq i := by
  rw [← iblk6 m c t i l]
  unfold frqV k0_pay593
  refine (congrFun (shapeCast_self _ _) _).trans ?_
  exact (Memref.IsWhole.readAt_unread _ (iblk m c 6 t) _ _).trans (congrArg _ (idx_whole2 _ _))

end Cert.Points
end
-- ==== Proof.Math.lean ====
/-
  The function both sides compute, index by index over the extended reals.
-/
module

public import proofs.«01_k».proof.Proof.Spec
public import proofs.«01_k».proof.Proof.Freq
public import proofs.«01_k».proof.Proof.Codes
public import Idealize.ShloMosaic.Lib.Pointwise

@[expose] public section

noncomputable section

namespace Cert.Math

open Idealize.ShloMosaic

variable (a0 : Vec Ideal ⟨3, ![12, 2048, 4096]⟩ .fp8e4m3) (a1 : Vec Ideal ⟨3, ![12, 2048, 32]⟩ .f32)
  (a2 : Vec Ideal ⟨2, ![4096, 1088]⟩ .fp8e4m3) (a3 : Vec Ideal ⟨2, ![32, 9]⟩ .f32) (a4 : Vec Ideal ⟨1, ![1024]⟩ .f32)
  (a5 : Vec Ideal ⟨1, ![12]⟩ .i32)

/-- The product, feature `n` of position `l` of batch row `b`. -/
def kv (b : Fin 12) (l : Fin 2048) (n : Fin 1088) : EReal :=
  ∑ x : Fin 4096, (a0 (ix3 b l x) * a1 (ix3 b l ⟨x.val / 128, by omega⟩) : EReal)
    * (a2 (ix2 x n) * a3 (ix2 ⟨x.val / 128, by omega⟩ ⟨n.val / 128, by omega⟩))

/-- The reciprocal root mean square of a position's latents. -/
def rnorm (b : Fin 12) (l : Fin 2048) : EReal :=
  Ideal.rsqrt (Ideal.div (∑ x : Fin 1024, kv a0 a1 a2 a3 b l ⟨x.val, by omega⟩ * kv a0 a1 a2 a3 b l ⟨x.val, by omega⟩)
    (Ideal.ofBits .f32 1149239296#32) + Ideal.ofBits .f32 897988541#32)

/-- The layer-normed latent. -/
def lat (b : Fin 12) (l : Fin 2048) (n : Fin 1024) : EReal :=
  kv a0 a1 a2 a3 b l ⟨n.val, by omega⟩ * rnorm a0 a1 a2 a3 b l * a4 (ix1 n)

/-- A group's greatest magnitude over 448. -/
def amax (y : Fin 1024 → EReal) (g : Fin 8) : EReal :=
  Finset.fold max (Ideal.ofBits .f32 4286578688#32) (fun x : Fin 128 => FloatOps.absf (F := Ideal) (φ := .f32)
    (y ⟨g.val * 128 + x.val, by omega⟩)) Finset.univ * Ideal.ofBits .f32 991054117#32

/-- The exponent of a group. -/
def exponent (b : Fin 12) (l : Fin 2048) (g : Fin 8) : EReal := Spec.expo (amax (lat a0 a1 a2 a3 a4 b l) g)

/-- The scale of a group. -/
def scale (b : Fin 12) (l : Fin 2048) (g : Fin 8) : EReal := Ideal.exp2 (exponent a0 a1 a2 a3 a4 b l g)

/-- A code. -/
def code (b : Fin 12) (l : Fin 2048) (n : Fin 1024) : EReal :=
  min (Ideal.ofBits .f32 1138753536#32) (max (Ideal.ofBits .f32 3286237184#32)
    (lat a0 a1 a2 a3 a4 b l n * Ideal.exp2 (0 - exponent a0 a1 a2 a3 a4 b l ⟨n.val / 128, by omega⟩)))

/-- The angle of a pair of key features at a position. -/
def angle (b : Fin 12) (l : Fin 2048) (i : Fin 32) : EReal :=
  FloatOps.sitofp (F := Ideal) .f32 (IntOp.addi (a5 (ix1 b)) (BitVec.ofNat 32 l.val)) * Spec.freq i

/-- A rotated key feature. -/
def key (b : Fin 12) (l : Fin 2048) (n : Fin 64) : EReal :=
  if n.val % 2 = 0 then
    kv a0 a1 a2 a3 b l ⟨1024 + n.val / 2 * 2, by omega⟩ * Ideal.cos (angle a5 b l ⟨n.val / 2, by omega⟩)
      - kv a0 a1 a2 a3 b l ⟨1024 + (n.val / 2 * 2 + 1), by omega⟩ * Ideal.sin (angle a5 b l ⟨n.val / 2, by omega⟩)
  else
    kv a0 a1 a2 a3 b l ⟨1024 + n.val / 2 * 2, by omega⟩ * Ideal.sin (angle a5 b l ⟨n.val / 2, by omega⟩)
      + kv a0 a1 a2 a3 b l ⟨1024 + (n.val / 2 * 2 + 1), by omega⟩ * Ideal.cos (angle a5 b l ⟨n.val / 2, by omega⟩)

/-- Byte `r` of a position's record: the codes', then the scales', then the rotated key features'. -/
def record (b : Fin 12) (l : Fin 2048) (r : Fin 1184) : BitVec 8 :=
  if hc : r.val < 1024 then (Codes.rbits8 (code a0 a1 a2 a3 a4 b l ⟨r.val, hc⟩)).setWidth 8
  else if hs : r.val < 1056 then
    Codes.byte ((r.val - 1024) % 4) (Codes.rscale (exponent a0 a1 a2 a3 a4 b l ⟨(r.val - 1024) / 4, by omega⟩))
  else Codes.byte ((r.val - 1056) % 2) (Codes.rbits16 (key a0 a1 a2 a3 a5 b l ⟨(r.val - 1056) / 2, by omega⟩))

end Cert.Math
end
-- ==== Proof.Outs.lean ====
/-
  What every grid point leaves in the four outputs and in the scratch it hands on.
-/
module

public import proofs.«01_k».proof.Proof.Points
public import proofs.«01_k».proof.Proof.Math
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.Outs

open Cert.KernelIdeal Cert.KernelIdeal.Gen Cert.KernelIdeal.Value Idealize.ShloMosaic Idealize.ShloMosaic.TcCoe Idealize.SL.Sem
open Idealize.ShloMosaic.Pipeline (Dat)
open Cert.Runs Cert.Stages Cert.Scratch Cert.Points

variable (m : (ℓ : Loc nD τ sig) → Buf (Elt Ideal) ℓ) (ρ : Dev nD → PrngReg)

variable (c : Dev nD)

/-- The activations. -/
abbrev a0 : Vec Ideal S12x2048x4096 .fp8e4m3 := m ((c : Thread nD τ).loc main_arg0)
/-- The activation scales. -/
abbrev a1 : Vec Ideal S12x2048x32 .f32 := m ((c : Thread nD τ).loc main_arg1)
/-- The weights. -/
abbrev a2 : Vec Ideal S4096x1088 .fp8e4m3 := m ((c : Thread nD τ).loc main_arg2)
/-- The weight scales. -/
abbrev a3 : Vec Ideal S32x9 .f32 := m ((c : Thread nD τ).loc main_arg3)
/-- The layer-norm weights. -/
abbrev a4 : Vec Ideal S1024 .f32 := m ((c : Thread nD τ).loc main_arg4)
/-- The batch rows' first positions. -/
abbrev a5 : Vec Ideal S12 .i32 := m ((c : Thread nD τ).loc main_arg5)

/-- The scaled weights. -/
def Wm : Vec Ideal S1088x4096 .bf16 := fun y => a2 m c (ix2 ⟨(y 1).val, (y 1).isLt⟩ ⟨(y 0).val, (y 0).isLt⟩)
  * a3 m c (ix2 ⟨(y 1).val / 128, by have := (y 1).isLt; simp at this; omega⟩ ⟨(y 0).val / 128, by have := (y 0).isLt; simp at this; omega⟩)

/-- The layer-norm weights. -/
def Gm (i : Fin 1024) : EReal := a4 m c (ix1 i)

/-- The layer-norm weights as columns. -/
def GmC : Vec Ideal S1024x128 .f32 := fun y => Gm m c ⟨(y 0).val, (y 0).isLt⟩

/-- The scaled activations of a point. -/
abbrev Ht (t : Fin cfg0.N) : Vec Ideal S512x4096 .bf16 := hB (iblk m c 2 t) (iblk m c 3 t)

/-- Every point's weights' block, scaled, is the scaled weights. -/
theorem wB_eq (t : Fin cfg0.N) : wB (iblk m c 1 t) (iblk m c 4 t) = Wm m c := by
  funext y
  unfold wB Wm
  refine congrArg₂ (· * ·) ?_ (iblk1 m c t _ _)
  refine Eq.trans (congrArg (iblk m c 4 t) ?_) (iblk4 m c t _ _)
  funext d
  match d with
  | ⟨0, _⟩ => rfl
  | ⟨1, _⟩ => rfl

/-- Every point's layer-norm block, in columns, is the layer-norm weights in columns. -/
theorem gC_eq (t : Fin cfg0.N) : gC (iblk m c 5 t) = GmC m c := by
  funext y
  exact iblk5 m c t _

/-- A point's product is the product. -/
theorem kv_eq (t : Fin cfg0.N) (n : Fin 1088) (l : Fin 512) : kv (Wm m c) (Ht m c t) n l
    = Math.kv (a0 m c) (a1 m c) (a2 m c) (a3 m c) ⟨t.val / 4, by have := lt48 t; omega⟩ ⟨t.val % 4 * 512 + l.val, by omega⟩ n := by
  unfold kv Math.kv
  refine Finset.sum_congr rfl fun k _ => ?_
  rw [mul_comm]
  refine congrArg₂ (· * ·) ?_ rfl
  exact congrArg₂ (· * ·) (iblk2 m c t l k) (iblk3 m c t ⟨k.val / 128, by omega⟩ l)

/-- What the outputs and the carried scratch hold after a point. -/
def res (t : Fin cfg0.N) : Vec Ideal S1x1184x512 .i8 × Vec Ideal S1x64x512 .bf16 × Vec Ideal S1x512x1024 .fp8e4m3 × Vec Ideal S1x8x512 .f32
    × Vec Ideal S1088x4096 .bf16 × Vec Ideal S1024x128 .f32 :=
  (outB (Wm m c) (Ht m c t) (Gm m c) (posV m c t) (frqV m c t), outR (Wm m c) (Ht m c t) (posV m c t) (frqV m c t), outC (Wm m c) (Ht m c t) (Gm m c), outS (Wm m c) (Ht m c t) (Gm m c), Wm m c, GmC m c)

/-- The first point. -/
theorem res_A (t : Fin cfg0.N) (h0 : t.val % 48 = 0) : outsAt0 m c t.val t.isLt = res m c t := by
  have hW : WA m c t h0 = Wm m c := (WA_eq m c t h0).trans (wB_eq m c t)
  have hH : HA m c t h0 = Ht m c t := HA_eq m c t h0
  have hγ : ∀ (g : Fin 8) (i l : Fin 128), γA m c t h0 g (ix2 i l) = Gm m c ⟨128 * g.val + i.val, by omega⟩ := fun g i l =>
    (γA_apply m c t h0 g i l).trans (congrFun (gC_eq m c t) _)
  rw [outsAt0_A m c t h0]
  unfold res
  refine Prod.ext ?_ (Prod.ext ?_ (Prod.ext ?_ (Prod.ext ?_ (Prod.ext ?_ ?_))))
  · dsimp only
    unfold out0_A_7
    refine (View.read_writes_junk_eq_canon VO0_7 _).trans ?_
    refine (congrArg View.canon (rec_A m c t h0)).trans ?_
    rw [← hW, ← hH]
    exact rec_canon _ _ _ _ hγ _ _ _ (sA_apply m c t h0)
  · dsimp only
    unfold out0_A_8
    refine (View.read_writes_junk_eq_canon VO0_8 _).trans ?_
    refine (congrArg View.canon (rope_A m c t h0)).trans ?_
    rw [← hW, ← hH]
    exact rope_canon _ _ _ _ _ (sA_apply m c t h0)
  · dsimp only
    unfold out0_A_9
    refine (View.read_writes_junk_eq_canon VO0_9 _).trans ?_
    refine (congrArg View.canon (codes_A m c t h0)).trans ?_
    rw [← hW, ← hH]
    exact codes_canon _ _ _ _ hγ
  · dsimp only
    unfold out0_A_10
    refine (View.read_writes_junk_eq_canon VO0_10 _).trans ?_
    refine (congrArg View.canon (scales_A m c t h0)).trans ?_
    rw [← hW, ← hH]
    exact scales_canon _ _ _ _ hγ
  · dsimp only
    unfold sout0_A_0
    refine (View.read_writes_junk_eq_canon VS0_0 _).trans ?_
    exact ((canon_w m c t h0).trans (wB_eq m c t))
  · dsimp only
    unfold sout0_A_1
    refine (View.read_writes_junk_eq_canon VS0_1 _).trans ?_
    exact ((canon_g m c t h0).trans (gC_eq m c t))

/-- Every other point, over a scratch that holds the weights. -/
theorem res_B (t : Fin cfg0.N) (h0 : ¬ t.val % 48 = 0)
    (e0 : (outsAt0 m c (t.val - 1) (Nat.lt_of_le_of_lt (Nat.sub_le _ _) t.isLt)).2.2.2.2.1 = Wm m c)
    (e1 : (outsAt0 m c (t.val - 1) (Nat.lt_of_le_of_lt (Nat.sub_le _ _) t.isLt)).2.2.2.2.2 = GmC m c) :
    outsAt0 m c t.val t.isLt = res m c t := by
  have hW : WB (Wm m c) = Wm m c := WB_eq _
  have hH : HB m c t h0 (Wm m c) (GmC m c) = Ht m c t := HB_eq m c t h0 _ _
  have hγ : ∀ (g : Fin 8) (i l : Fin 128), γB (GmC m c) g (ix2 i l) = Gm m c ⟨128 * g.val + i.val, by omega⟩ := fun g i l =>
    γB_apply (GmC m c) g i l
  rw [outsAt0_B m c t h0, e0, e1]
  unfold res
  refine Prod.ext ?_ (Prod.ext ?_ (Prod.ext ?_ (Prod.ext ?_ (Prod.ext ?_ ?_))))
  · dsimp only
    unfold out0_B_7
    refine (View.read_writes_junk_eq_canon VO0_7 _).trans ?_
    refine (congrArg View.canon (rec_B m c t h0 _ _)).trans ?_
    refine (rec_canon (WB (Wm m c)) (HB m c t h0 (Wm m c) (GmC m c)) _ _ hγ _ _ _ (sB_apply m c t h0 _ _)).trans ?_
    rw [hW, hH]
  · dsimp only
    unfold out0_B_8
    refine (View.read_writes_junk_eq_canon VO0_8 _).trans ?_
    refine (congrArg View.canon (rope_B m c t h0 _ _)).trans ?_
    refine (rope_canon (WB (Wm m c)) (HB m c t h0 (Wm m c) (GmC m c)) _ _ _ (sB_apply m c t h0 _ _)).trans ?_
    rw [hW, hH]
  · dsimp only
    unfold out0_B_9
    refine (View.read_writes_junk_eq_canon VO0_9 _).trans ?_
    refine (congrArg View.canon (codes_B m c t h0 _ _)).trans ?_
    refine (codes_canon _ _ _ _ hγ).trans ?_
    rw [hW, hH]
  · dsimp only
    unfold out0_B_10
    refine (View.read_writes_junk_eq_canon VO0_10 _).trans ?_
    refine (congrArg View.canon (scales_B m c t h0 _ _)).trans ?_
    refine (scales_canon _ _ _ _ hγ).trans ?_
    rw [hW, hH]
  · rfl
  · rfl

/-- Every point. -/
theorem outs : ∀ (n : ℕ) (hn : n < cfg0.N), outsAt0 m c n hn = res m c ⟨n, hn⟩
  | 0, hn => res_A m c ⟨0, hn⟩ rfl
  | n + 1, hn => by
    have h := outs n (Nat.lt_of_succ_lt hn)
    refine res_B m c ⟨n + 1, hn⟩ (by have := lt48 ⟨n + 1, hn⟩; simp only at this ⊢; omega) ?_ ?_
    · exact congrArg (fun p => p.2.2.2.2.1) h
    · exact congrArg (fun p => p.2.2.2.2.2) h

end Cert.Outs
end
-- ==== Proof.Bound.lean ====
/-
  A normalised row weighted by finite numbers stays below 2^133, so a group's greatest magnitude over 448 stays below 2^126.
-/
module

public import proofs.«01_k».proof.Proof.Math
public import Mathlib.Analysis.SpecialFunctions.Log.Basic

@[expose] public section

noncomputable section

namespace Cert.Bound

open Idealize.ShloMosaic

/-- A square is not negative. -/
theorem sq_nonneg' (x : EReal) : 0 ≤ x * x := by
  induction x using EReal.rec with
  | bot => simp
  | top => simp
  | coe r => exact_mod_cast mul_self_nonneg r

/-- An infinity's square is infinite. -/
theorem sq_top (x : EReal) (h : x = ⊤ ∨ x = ⊥) : x * x = ⊤ := by
  rcases h with rfl | rfl <;> simp

/-- The mean square, plus the epsilon. -/
def mean (f : Fin 1024 → EReal) : EReal :=
  Ideal.div (∑ x, f x * f x) (Ideal.ofBits .f32 1149239296#32) + Ideal.ofBits .f32 897988541#32

/-- A quotient by 1024 is a product by 1/1024. -/
theorem div1024 (s : EReal) : Ideal.div s (Ideal.ofBits .f32 0x44800000#32) = s * ((1 / 1024 : ℝ) : EReal) := by
  rw [Spec.c1024]
  unfold Ideal.div
  rw [if_neg (by norm_num), ← EReal.coe_inv]
  norm_num

/-- A normalised row holds numbers of magnitude at most 32. -/
theorem norm_bound (f : Fin 1024 → EReal) (n : Fin 1024) : ∃ z : ℝ, f n * Ideal.rsqrt (mean f) = (z : EReal) ∧ |z| ≤ 32 := by
  obtain ⟨e, he, hp⟩ := Spec.cEps
  have hm : mean f = (∑ x, f x * f x) * ((1 / 1024 : ℝ) : EReal) + (e : EReal) := by
    unfold mean; rw [he, div1024]
  by_cases h : ∃ x, f x = ⊤ ∨ f x = ⊥
  · obtain ⟨x, hx⟩ := h
    have hs : ∑ x, f x * f x = ⊤ := top_le_iff.1 (le_of_eq_of_le (sq_top _ hx).symm
      (Finset.single_le_sum (f := fun x => f x * f x) (fun i _ => sq_nonneg' _) (Finset.mem_univ x)))
    have ht : mean f = ⊤ := by
      rw [hm, hs, EReal.top_mul_coe_of_pos (by norm_num), EReal.top_add_coe]
    refine ⟨0, ?_, by norm_num⟩
    rw [ht]
    show f n * (0 : EReal) = _
    simp
  · push Not at h
    have hf : ∀ x, ∃ r : ℝ, f x = (r : EReal) := fun x => ⟨(f x).toReal, (EReal.coe_toReal (h x).1 (h x).2).symm⟩
    choose g hg using hf
    have hs : ∑ x, f x * f x = ((∑ x, g x * g x : ℝ) : EReal) := by
      simp only [hg, ← EReal.coe_mul]
      exact (map_sum (⟨⟨Real.toEReal, EReal.coe_zero⟩, EReal.coe_add⟩ : ℝ →+ EReal) _ _).symm
    have h0 : 0 ≤ ∑ x, g x * g x := Finset.sum_nonneg fun i _ => mul_self_nonneg _
    have h1 : g n * g n ≤ ∑ x, g x * g x := Finset.single_le_sum (f := fun x => g x * g x) (fun i _ => mul_self_nonneg _) (Finset.mem_univ n)
    set S := ∑ x, g x * g x
    have hq : 0 < S * (1 / 1024) + e := by positivity
    have hm' : mean f = ((S * (1 / 1024) + e : ℝ) : EReal) := by
      rw [hm, hs, ← EReal.coe_mul, ← EReal.coe_add]
    have hr : Ideal.rsqrt (mean f) = (((Real.sqrt (S * (1 / 1024) + e))⁻¹ : ℝ) : EReal) := by
      rw [hm']
      show (if S * (1 / 1024) + e < 0 then (⊥ : EReal) else if S * (1 / 1024) + e = 0 then ⊤ else _) = _
      rw [if_neg (not_lt.2 hq.le), if_neg hq.ne']
    refine ⟨g n * (Real.sqrt (S * (1 / 1024) + e))⁻¹, ?_, ?_⟩
    · rw [hr, hg, EReal.coe_mul]
    · have hsq := Real.sqrt_pos.2 hq
      rw [abs_mul, abs_of_pos (inv_pos.2 hsq), ← div_eq_mul_inv, div_le_iff₀ hsq]
      have hb : 0 ≤ 32 * Real.sqrt (S * (1 / 1024) + e) := by positivity
      refine abs_le_of_sq_le_sq ?_ hb
      rw [mul_pow, Real.sq_sqrt hq.le]
      nlinarith

/-- A weighted normalised row holds numbers of magnitude at most 2^133. -/
theorem weighted_bound (f : Fin 1024 → EReal) (n : Fin 1024) (w : EReal)
    (hw : FloatOps.absf (F := Ideal) (φ := .f32) w ≤ Ideal.ofBits .f32 0x7F7FFFFF#32) :
    ∃ z : ℝ, f n * Ideal.rsqrt (mean f) * w = (z : EReal) ∧ |z| ≤ 2 ^ 133 := by
  obtain ⟨G, hG, h0, h1⟩ := Spec.cMax
  rw [hG] at hw
  change max w (-w) ≤ (G : EReal) at hw
  obtain ⟨z, hz, hb⟩ := norm_bound f n
  induction w using EReal.rec with
  | bot => simp at hw
  | top => simp at hw
  | coe r =>
    have hr : |r| ≤ G := by
      rw [← EReal.coe_neg, max_le_iff, EReal.coe_le_coe_iff, EReal.coe_le_coe_iff] at hw
      exact abs_le'.2 hw
    refine ⟨z * r, by rw [hz, EReal.coe_mul], ?_⟩
    rw [abs_mul]
    calc |z| * |r| ≤ 32 * 2 ^ 128 := mul_le_mul hb (hr.trans h1) (abs_nonneg _) (by norm_num)
      _ = 2 ^ 133 := by norm_num

/-- The greatest magnitude of a group of such numbers, over 448, is not negative and is below 2^126. -/
theorem amax_bound (y : Fin 1024 → EReal) (hy : ∀ n, ∃ z : ℝ, y n = (z : EReal) ∧ |z| ≤ 2 ^ 133) (g : Fin 8) :
    0 ≤ Math.amax y g ∧ Math.amax y g < ((2 ^ 126 : ℝ) : EReal) := by
  obtain ⟨k, hk, k0, k1⟩ := Spec.cInv448
  unfold Math.amax
  rw [hk]
  have hz : ∀ n, ∃ z : ℝ, FloatOps.absf (F := Ideal) (φ := .f32) (y n) = (z : EReal) ∧ 0 ≤ z ∧ z ≤ 2 ^ 133 := by
    intro n
    obtain ⟨z, h, hb⟩ := hy n
    refine ⟨|z|, ?_, abs_nonneg _, hb⟩
    rw [h]
    show max (z : EReal) (-(z : EReal)) = _
    rw [← EReal.coe_neg, abs_eq_max_neg]
    exact (EReal.coe_strictMono.monotone.map_max).symm
  generalize hF : Finset.fold max (Ideal.ofBits .f32 4286578688#32) (fun x : Fin 128 => FloatOps.absf (F := Ideal) (φ := .f32)
    (y ⟨g.val * 128 + x.val, by omega⟩)) Finset.univ = F
  have l : (0 : EReal) ≤ F := by
    rw [← hF]
    obtain ⟨z, h, hp, -⟩ := hz ⟨g.val * 128 + 0, by omega⟩
    refine (Finset.le_fold_max _).2 (Or.inr ⟨0, Finset.mem_univ _, ?_⟩)
    exact (EReal.coe_nonneg.2 hp).trans_eq h.symm
  have u : F ≤ ((2 ^ 133 : ℝ) : EReal) := by
    rw [← hF]
    refine (Finset.fold_max_le _).2 ⟨?_, fun x _ => ?_⟩
    · exact (le_of_eq Spec.cNegInf).trans bot_le
    · obtain ⟨z, h, -, hu⟩ := hz ⟨g.val * 128 + x.val, by omega⟩
      exact h.trans_le (EReal.coe_le_coe_iff.2 hu)
  induction F using EReal.rec with
  | bot => simp at l
  | top => exact absurd u (not_le.2 (EReal.coe_lt_top _))
  | coe r =>
    have r0 : 0 ≤ r := EReal.coe_nonneg.1 l
    have r1 : r ≤ 2 ^ 133 := EReal.coe_le_coe_iff.1 u
    rw [← EReal.coe_mul]
    refine ⟨EReal.coe_nonneg.2 (mul_nonneg r0 k0), EReal.coe_lt_coe_iff.2 ?_⟩
    calc r * k ≤ 2 ^ 133 * 2⁻¹ ^ 8 := mul_le_mul r1 k1 k0 (by norm_num)
      _ < 2 ^ 126 := by norm_num

variable (a0 : Vec Ideal ⟨3, ![12, 2048, 4096]⟩ .fp8e4m3) (a1 : Vec Ideal ⟨3, ![12, 2048, 32]⟩ .f32)
  (a2 : Vec Ideal ⟨2, ![4096, 1088]⟩ .fp8e4m3) (a3 : Vec Ideal ⟨2, ![32, 9]⟩ .f32) (a4 : Vec Ideal ⟨1, ![1024]⟩ .f32)

/-- A group's greatest latent magnitude over 448, with finite layer-norm weights, is not negative and is below 2^126. -/
theorem lat_bound (h : ∀ n : Fin 1024, FloatOps.absf (F := Ideal) (φ := .f32) (a4 (ix1 n)) ≤ Ideal.ofBits .f32 0x7F7FFFFF#32)
    (b : Fin 12) (l : Fin 2048) (g : Fin 8) :
    0 ≤ Math.amax (Math.lat a0 a1 a2 a3 a4 b l) g ∧ Math.amax (Math.lat a0 a1 a2 a3 a4 b l) g < ((2 ^ 126 : ℝ) : EReal) :=
  amax_bound _ (fun n => weighted_bound (fun x => Math.kv a0 a1 a2 a3 b l ⟨x.val, by omega⟩) n _ (h n)) g

/-- The mean by a factor is the mean by a quotient. -/
theorem mean_eq (f : Fin 1024 → EReal) : (∑ x, f x * f x) * Ideal.ofBits .f32 0x3A800000#32 + Ideal.ofBits .f32 0x358637BD#32 = mean f := by
  unfold mean
  rw [div1024, Spec.cInv1024]

end Cert.Bound
end
-- ==== Proof.KArrays.lean ====
/-
  The kernel's four results as functions of the arguments.
-/
module

public import proofs.«01_k».proof.Proof.Outs
public import proofs.«01_k».proof.Proof.Bound
public import proofs.«01_k».proof.Proof.Codes
public import Idealize.ShloMosaic.Lib.Pipeline.ValueKit

@[expose] public section

set_option maxRecDepth 16384

noncomputable section

namespace Cert.KArrays

open Cert.KernelIdeal Cert.KernelIdeal.Gen Cert.KernelIdeal.Value Idealize.ShloMosaic Idealize.ShloMosaic.TcCoe Idealize.SL.Sem
open Idealize.ShloMosaic.Pipeline (Dat)
open Cert.Runs Cert.Scratch Cert.Points Cert.Outs

variable (m : (ℓ : Loc nD τ sig) → Buf (Elt Ideal) ℓ) (c : Dev nD)

/-- The batch row of a point. -/
def row (t : Fin cfg0.N) : Fin 12 := ⟨t.val / 4, by have := lt48 t; omega⟩

/-- The position, in the batch row, of a position in a point's tile. -/
def col (t : Fin cfg0.N) (l : Fin 512) : Fin 2048 := ⟨t.val % 4 * 512 + l.val, by omega⟩

/-- A point's product is the product. -/
theorem kv_eq' (t : Fin cfg0.N) (n : Fin 1088) (l : Fin 512) : Stages.kv (Wm m c) (Ht m c t) n l
    = Math.kv (a0 m c) (a1 m c) (a2 m c) (a3 m c) (row t) (col t l) n := kv_eq m c t n l

/-- A point's inverse norm is the inverse norm. -/
theorem rnorm_eq (t : Fin cfg0.N) (l : Fin 512) : Stages.rnorm (Wm m c) (Ht m c t) l
    = Math.rnorm (a0 m c) (a1 m c) (a2 m c) (a3 m c) (row t) (col t l) := by
  unfold Stages.rnorm Math.rnorm
  simp only [kv_eq']
  exact congrArg Ideal.rsqrt (Bound.mean_eq fun x : Fin 1024 => Math.kv (a0 m c) (a1 m c) (a2 m c) (a3 m c) (row t) (col t l) ⟨x.val, by omega⟩)

/-- A point's latents are the latents. -/
theorem lat_eq (t : Fin cfg0.N) (l : Fin 512) : (fun n => Stages.lat (Wm m c) (Ht m c t) (Gm m c) n l)
    = Math.lat (a0 m c) (a1 m c) (a2 m c) (a3 m c) (a4 m c) (row t) (col t l) := by
  funext n
  unfold Stages.lat Math.lat
  rw [kv_eq', rnorm_eq]
  rfl

/-- A tile's offset and a lane's add up. -/
theorem word_add (p : BitVec 32) (a l : ℕ) : p + BitVec.ofNat 32 a * 512#32 + BitVec.ofNat 32 (l % 128) + BitVec.ofNat 32 (l / 128 * 128)
    = p + BitVec.ofNat 32 (a * 512 + l) := by
  rw [BitVec.add_assoc, BitVec.add_assoc, ← BitVec.ofNat_mul, ← BitVec.ofNat_add, ← BitVec.ofNat_add]
  congr 2
  omega

/-- A point's angle is the angle: the tile's offset and the lane's add up to the position. -/
theorem angle_eq (t : Fin cfg0.N) (i : Fin 32) (l : Fin 512) :
    (FloatOps.sitofp (F := Ideal) .f32 (IntOp.addi (posV m c t (ix2 i ⟨l.val % 128, by omega⟩)) (BitVec.ofNat 32 (l.val / 128 * 128)))
      * frqV m c t (ix2 i ⟨l.val % 128, by omega⟩) : EReal) = Math.angle (a5 m c) (row t) (col t l) i := by
  rw [posV_apply, frqV_apply]
  unfold Math.angle
  have e : IntOp.addi (pos m c ⟨t.val / 4, by have := lt48 t; omega⟩ + BitVec.ofNat 32 (t.val % 4) * 512#32 + BitVec.ofNat 32 (l.val % 128))
      (BitVec.ofNat 32 (l.val / 128 * 128)) = IntOp.addi (a5 m c (ix1 (row t))) (BitVec.ofNat 32 (col t l).val) := by
    exact word_add _ _ _
  simp only at e ⊢
  rw [e]

/-- The records' array. -/
def R : Vec Ideal S12x1184x2048 .i8 := fun i => have h0 : (i 0).val < 12 := (i 0).isLt; have h1 : (i 1).val < 1184 := (i 1).isLt; have h2 : (i 2).val < 2048 := (i 2).isLt
  Math.record (a0 m c) (a1 m c) (a2 m c) (a3 m c) (a4 m c) (a5 m c) ⟨(i 0).val, h0⟩ ⟨(i 2).val, h2⟩ ⟨(i 1).val, h1⟩

/-- The keys' array. -/
def K : Vec Ideal S12x64x2048 .bf16 := fun i => have h0 : (i 0).val < 12 := (i 0).isLt; have h1 : (i 1).val < 64 := (i 1).isLt; have h2 : (i 2).val < 2048 := (i 2).isLt
  Math.key (a0 m c) (a1 m c) (a2 m c) (a3 m c) (a5 m c) ⟨(i 0).val, h0⟩ ⟨(i 2).val, h2⟩ ⟨(i 1).val, h1⟩

/-- The codes' array. -/
def C : Vec Ideal S12x2048x1024 .fp8e4m3 := fun i => have h0 : (i 0).val < 12 := (i 0).isLt; have h1 : (i 1).val < 2048 := (i 1).isLt; have h2 : (i 2).val < 1024 := (i 2).isLt
  Math.code (a0 m c) (a1 m c) (a2 m c) (a3 m c) (a4 m c) ⟨(i 0).val, h0⟩ ⟨(i 1).val, h1⟩ ⟨(i 2).val, h2⟩

/-- The scales' array. -/
def S : Vec Ideal S12x8x2048 .f32 := fun i => have h0 : (i 0).val < 12 := (i 0).isLt; have h1 : (i 1).val < 8 := (i 1).isLt; have h2 : (i 2).val < 2048 := (i 2).isLt
  Math.scale (a0 m c) (a1 m c) (a2 m c) (a3 m c) (a4 m c) ⟨(i 0).val, h0⟩ ⟨(i 2).val, h2⟩ ⟨(i 1).val, h1⟩

/-- The records at an index, by its coordinates. -/
theorem R_at (i : S12x1184x2048.Idx) (b : Fin 12) (r : Fin 1184) (l : Fin 2048) (h0 : b.val = (i 0).val) (h1 : r.val = (i 1).val) (h2 : l.val = (i 2).val) :
    Math.record (a0 m c) (a1 m c) (a2 m c) (a3 m c) (a4 m c) (a5 m c) b l r = R m c i := by
  obtain rfl : i = ix3 b r l := by
    funext a; apply Fin.ext
    match a with
    | ⟨0, _⟩ => exact h0.symm
    | ⟨1, _⟩ => exact h1.symm
    | ⟨2, _⟩ => exact h2.symm
  rfl

/-- The keys at an index, by its coordinates. -/
theorem K_at (i : S12x64x2048.Idx) (b : Fin 12) (n : Fin 64) (l : Fin 2048) (h0 : b.val = (i 0).val) (h1 : n.val = (i 1).val) (h2 : l.val = (i 2).val) :
    Math.key (a0 m c) (a1 m c) (a2 m c) (a3 m c) (a5 m c) b l n = K m c i := by
  obtain rfl : i = ix3 b n l := by
    funext a; apply Fin.ext
    match a with
    | ⟨0, _⟩ => exact h0.symm
    | ⟨1, _⟩ => exact h1.symm
    | ⟨2, _⟩ => exact h2.symm
  rfl

/-- The codes at an index, by its coordinates. -/
theorem C_at (i : S12x2048x1024.Idx) (b : Fin 12) (l : Fin 2048) (n : Fin 1024) (h0 : b.val = (i 0).val) (h1 : l.val = (i 1).val) (h2 : n.val = (i 2).val) :
    Math.code (a0 m c) (a1 m c) (a2 m c) (a3 m c) (a4 m c) b l n = C m c i := by
  obtain rfl : i = ix3 b l n := by
    funext a; apply Fin.ext
    match a with
    | ⟨0, _⟩ => exact h0.symm
    | ⟨1, _⟩ => exact h1.symm
    | ⟨2, _⟩ => exact h2.symm
  rfl

/-- The scales at an index, by its coordinates. -/
theorem S_at (i : S12x8x2048.Idx) (b : Fin 12) (g : Fin 8) (l : Fin 2048) (h0 : b.val = (i 0).val) (h1 : g.val = (i 1).val) (h2 : l.val = (i 2).val) :
    Math.scale (a0 m c) (a1 m c) (a2 m c) (a3 m c) (a4 m c) b l g = S m c i := by
  obtain rfl : i = ix3 b g l := by
    funext a; apply Fin.ext
    match a with
    | ⟨0, _⟩ => exact h0.symm
    | ⟨1, _⟩ => exact h1.symm
    | ⟨2, _⟩ => exact h2.symm
  rfl

/-- A rotated key feature of a point. -/
theorem key_eq (t : Fin cfg0.N) (n : Fin 64) (l : Fin 512) :
    Stages.outR (Wm m c) (Ht m c t) (posV m c t) (frqV m c t) (ix3 0 n l)
      = Math.key (a0 m c) (a1 m c) (a2 m c) (a3 m c) (a5 m c) (row t) (col t l) n := by
  show Stages.rot n (Stages.kv (Wm m c) (Ht m c t) ⟨1024 + n.val / 2 * 2, _⟩ l) (Stages.kv (Wm m c) (Ht m c t) ⟨1024 + (n.val / 2 * 2 + 1), _⟩ l)
    (FloatOps.sitofp (F := Ideal) .f32 (IntOp.addi (posV m c t (ix2 ⟨n.val / 2, by omega⟩ ⟨l.val % 128, by omega⟩)) (BitVec.ofNat 32 (l.val / 128 * 128)))
      * frqV m c t (ix2 ⟨n.val / 2, by omega⟩ ⟨l.val % 128, by omega⟩)) = _
  rw [angle_eq m c t ⟨n.val / 2, by omega⟩ l, kv_eq', kv_eq']
  rfl

variable (hγ : ∀ n : Fin 1024, FloatOps.absf (F := Ideal) (φ := .f32) (a4 m c (ix1 n)) ≤ Ideal.ofBits .f32 0x7F7FFFFF#32)

include hγ in
/-- A code of a point. -/
theorem code_eq (t : Fin cfg0.N) (l : Fin 512) (n : Fin 1024) : Stages.outC (Wm m c) (Ht m c t) (Gm m c) (ix3 0 l n)
    = Math.code (a0 m c) (a1 m c) (a2 m c) (a3 m c) (a4 m c) (row t) (col t l) n := by
  show Stages.code (fun n => Stages.lat (Wm m c) (Ht m c t) (Gm m c) n l) n = _
  rw [lat_eq]
  obtain ⟨b0, b1⟩ := Bound.lat_bound (a0 m c) (a1 m c) (a2 m c) (a3 m c) (a4 m c) hγ (row t) (col t l) ⟨n.val / 128, by omega⟩
  have e := Spec.invK_eq b0 b1
  unfold Math.code Math.exponent
  rw [← e]
  rfl

include hγ in
/-- A scale of a point. -/
theorem scale_eq (t : Fin cfg0.N) (g : Fin 8) (l : Fin 512) : Stages.outS (Wm m c) (Ht m c t) (Gm m c) (ix3 0 g l)
    = Math.scale (a0 m c) (a1 m c) (a2 m c) (a3 m c) (a4 m c) (row t) (col t l) g := by
  show Spec.scaleK (Stages.amax (fun n => Stages.lat (Wm m c) (Ht m c t) (Gm m c) n l) g) = _
  rw [lat_eq]
  obtain ⟨b0, b1⟩ := Bound.lat_bound (a0 m c) (a1 m c) (a2 m c) (a3 m c) (a4 m c) hγ (row t) (col t l) g
  exact Spec.scaleK_eq b0 b1

/-- A value clipped to the codes' range is a real in it. -/
theorem clip_real (x : EReal) : ∃ r : ℝ, |r| ≤ 448 ∧ min (Ideal.ofBits .f32 0x43E00000#32) (max (Ideal.ofBits .f32 0xC3E00000#32) x) = (r : EReal) := by
  have e1 : Ideal.ofBits .f32 0x43E00000#32 = ((448 : ℝ) : EReal) := by simp [Ideal.ofBits, Ideal.ieee]; rw [← EReal.coe_mul]; norm_num
  have e2 : Ideal.ofBits .f32 0xC3E00000#32 = ((-448 : ℝ) : EReal) := by simp [Ideal.ofBits, Ideal.ieee]; rw [← EReal.coe_mul]; norm_num
  rw [e1, e2]
  induction x using EReal.rec with
  | bot => exact ⟨-448, by norm_num, by rw [max_eq_left bot_le]; exact min_eq_right (EReal.coe_le_coe_iff.2 (by norm_num))⟩
  | top => exact ⟨448, by norm_num, by rw [max_eq_right le_top, min_eq_left le_top]⟩
  | coe r =>
    refine ⟨min 448 (max (-448) r), abs_le.2 ⟨le_min (by norm_num) (le_max_left _ _), min_le_left _ _⟩, ?_⟩
    rw [EReal.coe_strictMono.monotone.map_min, EReal.coe_strictMono.monotone.map_max]

include hγ in
/-- A byte of a point's records. -/
theorem rec_eq (t : Fin cfg0.N) (r : Fin 1184) (l : Fin 512) : Stages.outB (Wm m c) (Ht m c t) (Gm m c) (posV m c t) (frqV m c t) (ix3 0 r l)
    = Math.record (a0 m c) (a1 m c) (a2 m c) (a3 m c) (a4 m c) (a5 m c) (row t) (col t l) r := by
  unfold Math.record
  by_cases hc : r.val < 1024
  · rw [dif_pos hc]
    refine (dif_pos hc).trans ?_
    obtain ⟨x, hx, e⟩ : ∃ x : ℝ, |x| ≤ 448 ∧ Math.code (a0 m c) (a1 m c) (a2 m c) (a3 m c) (a4 m c) (row t) (col t l) ⟨r.val, hc⟩ = (x : EReal) := clip_real _
    refine congrArg (fun w : BitVec 32 => w.setWidth 8) ?_
    refine (congrArg Codes.kbits8 (code_eq m c hγ t l ⟨r.val, hc⟩)).trans ?_
    rw [e]
    exact Codes.bits8 hx
  · rw [dif_neg hc]
    refine (dif_neg hc).trans ?_
    by_cases hs : r.val < 1056
    · rw [dif_pos hs]
      refine (dif_pos hs).trans ?_
      refine congrArg (Codes.byte ((r.val - 1024) % 4)) ?_
      obtain ⟨b0, b1⟩ := Bound.lat_bound (a0 m c) (a1 m c) (a2 m c) (a3 m c) (a4 m c) hγ (row t) (col t l) ⟨(r.val - 1024) / 4, by omega⟩
      refine Eq.trans ?_ (Codes.scale_bits b0 b1)
      rw [← lat_eq]
      rfl
    · rw [dif_neg hs]
      refine (dif_neg hs).trans ?_
      refine congrArg (Codes.byte ((r.val - 1056) % 2)) ?_
      refine (congrArg Codes.kbits16 (key_eq m c t ⟨(r.val - 1056) / 2, by omega⟩ l)).trans ?_
      exact (Codes.bits16 _).1

include hγ in
/-- What a point writes back to the records is its block of the records. -/
theorem flushed7 (t : Fin cfg0.N) : (dats m 0 c).flushed 7 t = ((cfg0.win 7).blk t).view.read (Elt Ideal) (R m c) := by
  show (cfg0.win 7).cut (grid0.coords t) ((dats m 0 c).after 7 t) = _
  rw [after0_7, outs]
  obtain ⟨e0, e1, e2, e3⟩ := idx_facts7 t
  funext y
  have hy0 : (y 0).val < 1 := (y 0).isLt
  have hy1 : (y 1).val < 1184 := (y 1).isLt
  have hy2 : (y 2).val < 512 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 1184 + 1 * (y 1).val := rfl
  have hb2 : (((cfg0.win 7).blk t).view.emb y 2).val = win0_7.index t (2 : Fin 3) * 512 + 1 * (y 2).val := rfl
  have hx : (cfg0.win 7).xinj (grid0.coords t) y = (ix3 0 ⟨(y 1).val, hy1⟩ ⟨(y 2).val, hy2⟩ : S1x1184x512.Idx) := by
    funext a; apply Fin.ext
    match a with
    | ⟨0, _⟩ => show (y 0).val = 0; omega
    | ⟨1, _⟩ => rfl
    | ⟨2, _⟩ => rfl
  show (res m c t).1 ((cfg0.win 7).xinj (grid0.coords t) y) = R m c (((cfg0.win 7).blk t).view.emb y)
  rw [hx]
  refine (rec_eq m c hγ t ⟨(y 1).val, hy1⟩ ⟨(y 2).val, hy2⟩).trans ?_
  exact R_at m c (((cfg0.win 7).blk t).view.emb y) _ _ _
    (by show t.val / 4 = (((cfg0.win 7).blk t).view.emb y 0).val; omega)
    (by show (y 1).val = (((cfg0.win 7).blk t).view.emb y 1).val; omega)
    (by show t.val % 4 * 512 + (y 2).val = (((cfg0.win 7).blk t).view.emb y 2).val; omega)

/-- What a point writes back to the keys is its block of the keys. -/
theorem flushed8 (t : Fin cfg0.N) : (dats m 0 c).flushed 8 t = ((cfg0.win 8).blk t).view.read (Elt Ideal) (K m c) := by
  show (cfg0.win 8).cut (grid0.coords t) ((dats m 0 c).after 8 t) = _
  rw [after0_8, outs]
  obtain ⟨e0, e1, e2, e3⟩ := idx_facts8 t
  funext y
  have hy0 : (y 0).val < 1 := (y 0).isLt
  have hy1 : (y 1).val < 64 := (y 1).isLt
  have hy2 : (y 2).val < 512 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 64 + 1 * (y 1).val := rfl
  have hb2 : (((cfg0.win 8).blk t).view.emb y 2).val = win0_8.index t (2 : Fin 3) * 512 + 1 * (y 2).val := rfl
  have hx : (cfg0.win 8).xinj (grid0.coords t) y = (ix3 0 ⟨(y 1).val, hy1⟩ ⟨(y 2).val, hy2⟩ : S1x64x512.Idx) := by
    funext a; apply Fin.ext
    match a with
    | ⟨0, _⟩ => show (y 0).val = 0; omega
    | ⟨1, _⟩ => rfl
    | ⟨2, _⟩ => rfl
  show (res m c t).2.1 ((cfg0.win 8).xinj (grid0.coords t) y) = K m c (((cfg0.win 8).blk t).view.emb y)
  rw [hx]
  refine (key_eq m c t ⟨(y 1).val, hy1⟩ ⟨(y 2).val, hy2⟩).trans ?_
  exact K_at m c (((cfg0.win 8).blk t).view.emb y) _ _ _
    (by show t.val / 4 = (((cfg0.win 8).blk t).view.emb y 0).val; omega)
    (by show (y 1).val = (((cfg0.win 8).blk t).view.emb y 1).val; omega)
    (by show t.val % 4 * 512 + (y 2).val = (((cfg0.win 8).blk t).view.emb y 2).val; omega)

include hγ in
/-- What a point writes back to the codes is its block of the codes. -/
theorem flushed9 (t : Fin cfg0.N) : (dats m 0 c).flushed 9 t = ((cfg0.win 9).blk t).view.read (Elt Ideal) (C m c) := by
  show (cfg0.win 9).cut (grid0.coords t) ((dats m 0 c).after 9 t) = _
  rw [after0_9, outs]
  obtain ⟨e0, e1, e2, e3⟩ := idx_facts9 t
  funext y
  have hy0 : (y 0).val < 1 := (y 0).isLt
  have hy1 : (y 1).val < 512 := (y 1).isLt
  have hy2 : (y 2).val < 1024 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 512 + 1 * (y 1).val := rfl
  have hb2 : (((cfg0.win 9).blk t).view.emb y 2).val = win0_9.index t (2 : Fin 3) * 1024 + 1 * (y 2).val := rfl
  have hx : (cfg0.win 9).xinj (grid0.coords t) y = (ix3 0 ⟨(y 1).val, hy1⟩ ⟨(y 2).val, hy2⟩ : S1x512x1024.Idx) := by
    funext a; apply Fin.ext
    match a with
    | ⟨0, _⟩ => show (y 0).val = 0; omega
    | ⟨1, _⟩ => rfl
    | ⟨2, _⟩ => rfl
  show (res m c t).2.2.1 ((cfg0.win 9).xinj (grid0.coords t) y) = C m c (((cfg0.win 9).blk t).view.emb y)
  rw [hx]
  refine (code_eq m c hγ t ⟨(y 1).val, hy1⟩ ⟨(y 2).val, hy2⟩).trans ?_
  exact C_at m c (((cfg0.win 9).blk t).view.emb y) _ _ _
    (by show t.val / 4 = (((cfg0.win 9).blk t).view.emb y 0).val; omega)
    (by show t.val % 4 * 512 + (y 1).val = (((cfg0.win 9).blk t).view.emb y 1).val; omega)
    (by show (y 2).val = (((cfg0.win 9).blk t).view.emb y 2).val; omega)

include hγ in
/-- What a point writes back to the scales is its block of the scales. -/
theorem flushed10 (t : Fin cfg0.N) : (dats m 0 c).flushed 10 t = ((cfg0.win 10).blk t).view.read (Elt Ideal) (S m c) := by
  show (cfg0.win 10).cut (grid0.coords t) ((dats m 0 c).after 10 t) = _
  rw [after0_10, outs]
  obtain ⟨e0, e1, e2, e3⟩ := idx_facts10 t
  funext y
  have hy0 : (y 0).val < 1 := (y 0).isLt
  have hy1 : (y 1).val < 8 := (y 1).isLt
  have hy2 : (y 2).val < 512 := (y 2).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 8 + 1 * (y 1).val := rfl
  have hb2 : (((cfg0.win 10).blk t).view.emb y 2).val = win0_10.index t (2 : Fin 3) * 512 + 1 * (y 2).val := rfl
  have hx : (cfg0.win 10).xinj (grid0.coords t) y = (ix3 0 ⟨(y 1).val, hy1⟩ ⟨(y 2).val, hy2⟩ : S1x8x512.Idx) := by
    funext a; apply Fin.ext
    match a with
    | ⟨0, _⟩ => show (y 0).val = 0; omega
    | ⟨1, _⟩ => rfl
    | ⟨2, _⟩ => rfl
  show (res m c t).2.2.2.1 ((cfg0.win 10).xinj (grid0.coords t) y) = S m c (((cfg0.win 10).blk t).view.emb y)
  rw [hx]
  refine (scale_eq m c hγ t ⟨(y 1).val, hy1⟩ ⟨(y 2).val, hy2⟩).trans ?_
  exact S_at m c (((cfg0.win 10).blk t).view.emb y) _ _ _
    (by show t.val / 4 = (((cfg0.win 10).blk t).view.emb y 0).val; omega)
    (by show (y 1).val = (((cfg0.win 10).blk t).view.emb y 1).val; omega)
    (by show t.val % 4 * 512 + (y 2).val = (((cfg0.win 10).blk t).view.emb y 2).val; omega)

include hγ in
/-- The records. -/
theorem records : (dats m 0 c).arrAt 7 cfg0.N = R m c :=
  (dats m 0 c).arrAt_eq_of_cover 7 _ (fun t _ => flushed7 m c hγ t) fun i => (covered_iff7 i).2 (by
    have h0 : (i 0).val < 12 := (i 0).isLt; have h1 : (i 1).val < 1184 := (i 1).isLt; have h2 : (i 2).val < 2048 := (i 2).isLt; omega)

/-- The rotated keys. -/
theorem keys : (dats m 0 c).arrAt 8 cfg0.N = K m c :=
  (dats m 0 c).arrAt_eq_of_cover 8 _ (fun t _ => flushed8 m c t) fun i => (covered_iff8 i).2 (by
    have h0 : (i 0).val < 12 := (i 0).isLt; have h1 : (i 1).val < 64 := (i 1).isLt; have h2 : (i 2).val < 2048 := (i 2).isLt; omega)

include hγ in
/-- The codes. -/
theorem codes : (dats m 0 c).arrAt 9 cfg0.N = C m c :=
  (dats m 0 c).arrAt_eq_of_cover 9 _ (fun t _ => flushed9 m c hγ t) fun i => (covered_iff9 i).2 (by
    have h0 : (i 0).val < 12 := (i 0).isLt; have h1 : (i 1).val < 2048 := (i 1).isLt; have h2 : (i 2).val < 1024 := (i 2).isLt; omega)

include hγ in
/-- The scales. -/
theorem scales : (dats m 0 c).arrAt 10 cfg0.N = S m c :=
  (dats m 0 c).arrAt_eq_of_cover 10 _ (fun t _ => flushed10 m c hγ t) fun i => (covered_iff10 i).2 (by
    have h0 : (i 0).val < 12 := (i 0).isLt; have h1 : (i 1).val < 8 := (i 1).isLt; have h2 : (i 2).val < 2048 := (i 2).isLt; omega)

end Cert.KArrays
end
-- ==== Proof.RefBlocks.lean ====
/-
  The reference's run with each output array named, and each output array's one block: what the single grid point
  writes back. (Copied from the generated value module, whose closed form of the outputs is not needed here.)
-/
module

public import proofs.«01_k».proof.Proof.Gen.ReferenceIdeal.Frame
public import Idealize.ShloMosaic.Lib.Pipeline.Value

@[expose] public section

noncomputable section

namespace Cert.ReferenceIdeal.Blocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S12x1184x2048.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S12x64x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S12x2048x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S12x8x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v11_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v11_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v11_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v11_3) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 7 cfg0.N
      ∧ r.2.mem ((c : Thread nD τ).loc main_v11_1) = (dats m 0 c).arrAt 8 cfg0.N
      ∧ r.2.mem ((c : Thread nD τ).loc main_v11_2) = (dats m 0 c).arrAt 9 cfg0.N
      ∧ r.2.mem ((c : Thread nD τ).loc main_v11_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Blocks

end
-- ==== Proof.RefPoint.lean ====
/-
  The reference's payloads read at an index.
-/
module

public import proofs.«01_k».proof.Proof.Gen.ReferenceIdeal.Skeleton
public import proofs.«01_k».proof.Proof.Spec
public import proofs.«01_k».proof.Proof.Codes
public import Idealize.ShloMosaic.Lib.Pointwise

@[expose] public section

set_option maxRecDepth 16384

noncomputable section

namespace Cert.RefPoint

open Idealize.ShloMosaic Cert.ReferenceIdeal Cert.ReferenceIdeal.Gen

variable (v0 : Vec Ideal S12x2048x4096 .fp8e4m3) (v3 : Vec Ideal S12x2048x32 .f32) (v9 : Vec Ideal S32x9 .f32) (v15 : Vec Ideal S4096x1088 .fp8e4m3)

/-- The product of the scaled activations with the scaled weights. -/
theorem pay2_apply (b : Fin 12) (l : Fin 2048) (n : Fin 1088) :
    k0_pay2 (F := Ideal) v0 v3 v9 v15 (ix3 b l n)
      = ∑ x : Fin 4096, (v0 (ix3 b l x) * v3 (ix3 b l ⟨x.val / 128, by omega⟩) : EReal)
          * (v15 (ix2 x n) * v9 (ix2 ⟨x.val / 128, by omega⟩ ⟨n.val / 128, by omega⟩)) := by
  pointwise [k0_pay2]

/-- The layer-normed latents, by group. -/
theorem pay3_apply (v37 : Vec Ideal S1024 .f32) (b : Fin 12) (l : Fin 2048) (g : Fin 8) (i : Fin 128) :
    k0_pay3 (F := Ideal) v0 v3 v9 v15 v37 (ix4 b l g i)
      = k0_pay2 (F := Ideal) v0 v3 v9 v15 (ix3 b l ⟨g.val * 128 + i.val, by omega⟩)
        * Ideal.rsqrt (Ideal.div (∑ x : Fin 1024, (k0_pay2 (F := Ideal) v0 v3 v9 v15 (ix3 b l ⟨x.val, by omega⟩)
            * k0_pay2 (F := Ideal) v0 v3 v9 v15 (ix3 b l ⟨x.val, by omega⟩) : EReal)) (Ideal.ofBits .f32 1149239296#32)
          + Ideal.ofBits .f32 897988541#32)
        * v37 (ix1 ⟨g.val * 128 + i.val, by omega⟩) := by
  pointwise [k0_pay3]

/-- The greatest magnitude of each group. -/
theorem pay4_apply (v37 : Vec Ideal S1024 .f32) (b : Fin 12) (l : Fin 2048) (g : Fin 8) :
    k0_pay4 (F := Ideal) v0 v3 v9 v15 v37 (ix3 b l g)
      = Finset.fold max (Ideal.ofBits .f32 4286578688#32)
          (fun x : Fin 128 => FloatOps.absf (F := Ideal) (φ := .f32) (k0_pay3 (F := Ideal) v0 v3 v9 v15 v37 (ix4 b l g x))) Finset.univ := by
  pointwise [k0_pay4]

/-- The exponent of each group. -/
theorem pay5_apply (v43 : FVec Ideal S12x2048x8 .f32) (b : Fin 12) (l : Fin 2048) (g : Fin 8) :
    k0_pay5 (F := Ideal) v43 (ix4 b l g 0) = Spec.expo (v43 (ix3 b l g) * Ideal.ofBits .f32 991054117#32) := by
  unfold Spec.expo
  pointwise [k0_pay5]

/-- The codes, by group. -/
theorem pay6_apply (v41 : FVec Ideal S12x2048x8x128 .f32) (v43 : FVec Ideal S12x2048x8 .f32) (b : Fin 12) (l : Fin 2048) (g : Fin 8) (i : Fin 128) :
    k0_pay6 (F := Ideal) v41 v43 (ix4 b l g i)
      = min (Ideal.ofBits .f32 1138753536#32) (max (Ideal.ofBits .f32 3286237184#32)
          (v41 (ix4 b l g i) * Ideal.exp2 (0 - k0_pay5 (F := Ideal) v43 (ix4 b l g 0)))) := by
  pointwise [k0_pay6]
  rfl

/-- The codes. -/
theorem pay7_apply (v41 : FVec Ideal S12x2048x8x128 .f32) (v43 : FVec Ideal S12x2048x8 .f32) (b : Fin 12) (l : Fin 2048) (n : Fin 1024) :
    k0_pay7 (F := Ideal) v41 v43 (ix3 b l n) = k0_pay6 (F := Ideal) v41 v43 (ix4 b l ⟨n.val / 128, by omega⟩ ⟨n.val % 128, by omega⟩) := by
  unfold k0_pay7
  generalize k0_pay6 (F := Ideal) v41 v43 = w
  pointwise []

/-- The scales. -/
theorem pay8_apply (v43 : FVec Ideal S12x2048x8 .f32) (b : Fin 12) (l : Fin 2048) (g : Fin 8) :
    k0_pay8 (F := Ideal) v43 (ix3 b g l) = Ideal.exp2 (k0_pay5 (F := Ideal) v43 (ix4 b l g 0)) := by
  pointwise [k0_pay8]
  rfl

/-- The key features, in pairs. -/
theorem pay9_apply (v24 : FVec Ideal S12x2048x1088 .bf16) (b : Fin 12) (l : Fin 2048) (g : Fin 32) (i : Fin 2) :
    k0_pay9 (F := Ideal) v24 (ix4 b l g i) = v24 (ix3 b l ⟨1024 + (g.val * 2 + i.val), by omega⟩) := by
  pointwise [k0_pay9]

/-- The position of each row. -/
theorem pay10_apply (v24 : Vec Ideal S12 .i32) (b : Fin 12) (l : Fin 2048) :
    k0_pay10 (F := Ideal) v24 (ix3 b l 0) = FloatOps.sitofp (F := Ideal) .f32 (IntOp.addi (v24 (ix1 b)) (BitVec.ofNat 32 l.val)) := by
  pointwise [k0_pay10]

/-- The rotated keys. -/
theorem pay11_apply (v78 : FVec Ideal S12x2048x32x2 .f32) (v85 : FVec Ideal S12x2048x1 .f32) (v86 : Vec Ideal S32 .f32)
    (b : Fin 12) (l : Fin 2048) (n : Fin 64) :
    k0_pay11 (F := Ideal) v78 v85 v86 (ix3 b l n)
      = if n.val % 2 < 1 then
          v78 (ix4 b l ⟨n.val / 2, by omega⟩ 0) * Ideal.cos (v85 (ix3 b l 0) * v86 (ix1 ⟨n.val / 2, by omega⟩))
            - v78 (ix4 b l ⟨n.val / 2, by omega⟩ 1) * Ideal.sin (v85 (ix3 b l 0) * v86 (ix1 ⟨n.val / 2, by omega⟩))
        else
          v78 (ix4 b l ⟨n.val / 2, by omega⟩ 0) * Ideal.sin (v85 (ix3 b l 0) * v86 (ix1 ⟨n.val / 2, by omega⟩))
            + v78 (ix4 b l ⟨n.val / 2, by omega⟩ 1) * Ideal.cos (v85 (ix3 b l 0) * v86 (ix1 ⟨n.val / 2, by omega⟩)) := by
  pointwise [k0_pay11]
  rfl

/-- The rotated keys, position by position along the last axis. -/
theorem pay12_apply (v78 : FVec Ideal S12x2048x32x2 .f32) (v85 : FVec Ideal S12x2048x1 .f32) (v86 : Vec Ideal S32 .f32)
    (b : Fin 12) (l : Fin 2048) (n : Fin 64) :
    k0_pay12 (F := Ideal) v78 v85 v86 (ix3 b n l) = k0_pay11 (F := Ideal) v78 v85 v86 (ix3 b l n) := by
  unfold k0_pay12
  generalize k0_pay11 (F := Ideal) v78 v85 v86 = w
  pointwise []

/-- The bits of the codes. -/
theorem bits8_apply (v69 : FVec Ideal S12x2048x8x128 .fp8e4m3) (b : Fin 12) (l : Fin 2048) (n : Fin 1024) :
    k0_pay16 (F := Ideal) (k0_pay13 v69) (k0_pay14 v69) (k0_pay15 v69) (ix3 b l n)
      = Codes.rbits8 (v69 (ix4 b l ⟨n.val / 128, by omega⟩ ⟨n.val % 128, by omega⟩)) := by
  have e : k0_pay13 (F := Ideal) v69 (ix3 b l n) = v69 (ix4 b l ⟨n.val / 128, by omega⟩ ⟨n.val % 128, by omega⟩) := by
    pointwise [k0_pay13]
  rw [← e]
  unfold k0_pay15 k0_pay14
  generalize k0_pay13 (F := Ideal) v69 = w
  rfl

/-- The bits of the scales. -/
theorem pay17_apply (v59 : FVec Ideal S12x2048x8x1 .f32) (b : Fin 12) (l : Fin 2048) (g : Fin 8) :
    k0_pay17 (F := Ideal) v59 (ix3 b l g) = Codes.rscale (v59 (ix4 b l g 0)) := by
  unfold Codes.rscale
  pointwise [k0_pay17]
  rfl

/-- The records. -/
theorem pay1_apply (v146 : IVec S12x2048x1024 32) (v152 : IVec S12x2048x8 32) (w : FVec Ideal S12x2048x64 .bf16)
    (b : Fin 12) (l : Fin 2048) (r : Fin 1184) :
    k0_pay1 (F := Ideal) v146 v152 (k0_pay18 w) (k0_pay19 w) (k0_pay20 w) k0_pay21 (ix3 b r l)
      = if hc : r.val < 1024 then (v146 (ix3 b l ⟨r.val, hc⟩)).setWidth 8
        else if hs : r.val < 1056 then Codes.byte ((r.val - 1024) % 4) (v152 (ix3 b l ⟨(r.val - 1024) / 4, by omega⟩))
        else Codes.byte ((r.val - 1056) % 2) (Codes.rbits16 (w (ix3 b l ⟨(r.val - 1056) / 2, by omega⟩))) := by
  have z : ∀ x : BitVec 32, x.setWidth 8 = Codes.byte 0 x := fun x => by simp [Codes.byte]
  have eb : ∀ (n : Fin 64), Codes.rbits16 (w (ix3 b l n)) = Scalar.select (Ideal.cmp .olt (k0_pay18 (F := Ideal) w (ix3 b l n)) (Ideal.ofBits .f32 0x00000000#32))
      (IntOp.addi (Scalar.select (Ideal.cmp .oeq (k0_pay19 (F := Ideal) w (ix3 b l n)) (Ideal.ofBits .f32 0x7F800000#32)) 32640#32 (k0_pay20 (F := Ideal) w (ix3 b l n))) 32768#32)
      (Scalar.select (Ideal.cmp .oeq (k0_pay19 (F := Ideal) w (ix3 b l n)) (Ideal.ofBits .f32 0x7F800000#32)) 32640#32 (k0_pay20 (F := Ideal) w (ix3 b l n))) := by
    intro n
    rfl
  simp only [eb, z]
  generalize k0_pay20 (F := Ideal) w = v178
  generalize k0_pay19 (F := Ideal) w = v154
  generalize k0_pay18 (F := Ideal) w = v153
  by_cases hc : r.val < 1024
  · rw [dif_pos hc, ← Codes.byte_eq 0 (by omega)]
    pointwise [k0_pay1, hc]
  · rw [dif_neg hc]
    by_cases hs : r.val < 1056
    · rw [dif_pos hs, ← Codes.byte_eq _ (by omega)]
      pointwise [k0_pay1, hc, hs]
      rw [dif_pos (by omega)]
    · rw [dif_neg hs, ← Codes.byte_eq _ (by omega)]
      have e : r.val - 1024 - 32 = r.val - 1056 := by omega
      pointwise [k0_pay1, hc, hs]
      rw [dif_neg (by omega)]
      simp only [e]
      rfl

end Cert.RefPoint

end
-- ==== Proof.RefArrays.lean ====
/-
  The reference's four results as functions of the arguments.
-/
module

public import proofs.«01_k».proof.Proof.RefBlocks
public import proofs.«01_k».proof.Proof.RefPoint
public import proofs.«01_k».proof.Proof.Math
public import Idealize.ShloMosaic.Lib.Pipeline.ValueKit
public import Idealize.ShloMosaic.Lib.Claim

@[expose] public section

set_option maxRecDepth 16384

noncomputable section

namespace Cert.RefArrays

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at the one point. -/
theorem idx : ∀ t : Fin cfg0.N, win0_0.index t = ![0, 0, 0] ∧ win0_1.index t = ![0, 0, 0] ∧ win0_2.index t = ![0, 0]
    ∧ win0_3.index t = ![0, 0] ∧ win0_4.index t = ![0] ∧ win0_5.index t = ![0] ∧ win0_6.index t = ![0]
    ∧ win0_7.index t = ![0, 0, 0] ∧ win0_8.index t = ![0, 0, 0] ∧ win0_9.index t = ![0, 0, 0]
    ∧ win0_10.index t = ![0, 0, 0] :=
  (by decide +kernel : ∀ t : Fin grid0.N, _)

variable (c : Dev nD)

/-- The activations' block is the argument. -/
theorem iblk0 : iblk m c 0 t0_0 = m ((c : Thread nD τ).loc main_arg0) := by
  blk_ext! [iblk, V, idx t0_0]

/-- The activation scales' block is the argument. -/
theorem iblk1 : iblk m c 1 t0_0 = m ((c : Thread nD τ).loc main_arg1) := by
  blk_ext! [iblk, V, idx t0_0]

/-- The weights' block is the argument. -/
theorem iblk2 : iblk m c 2 t0_0 = m ((c : Thread nD τ).loc main_arg2) := by
  blk_ext! [iblk, V, idx t0_0]

/-- The weight scales' block is the argument. -/
theorem iblk3 : iblk m c 3 t0_0 = m ((c : Thread nD τ).loc main_arg3) := by
  blk_ext! [iblk, V, idx t0_0]

/-- The layer-norm weights' block is the argument. -/
theorem iblk4 : iblk m c 4 t0_0 = m ((c : Thread nD τ).loc main_arg4) := by
  blk_ext! [iblk, V, idx t0_0]

/-- The positions' block is the argument. -/
theorem iblk5 : iblk m c 5 t0_0 = m ((c : Thread nD τ).loc main_arg5) := by
  blk_ext! [iblk, V, idx t0_0]

/-- The frequencies' operand is the frequencies. -/
theorem V10 (i : Fin 32) : V m c main_v10 (ix1 i) = Spec.freq i := by
  entry_read
  pointwise
  rfl

/-- And so is its block. -/
theorem iblk6 (i : Fin 32) : iblk m c 6 t0_0 (ix1 i) = Spec.freq i := by
  rw [← V10 m c i]
  blk_ext [iblk, idx t0_0]

/-- The records' array is the block the one point writes. -/
theorem final7 : (dats m 0 c).arrAt 7 cfg0.N = out0_7 (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 7 t0_0 (by decide +kernel) _ fun j => ?_
  blk_simp
  rw [after0_7]

/-- The keys' array is the block the one point writes. -/
theorem final8 : (dats m 0 c).arrAt 8 cfg0.N = out0_8 (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 8 t0_0 (by decide +kernel) _ fun j => ?_
  blk_simp
  rw [after0_8]

/-- The codes' array is the block the one point writes. -/
theorem final9 : (dats m 0 c).arrAt 9 cfg0.N = out0_9 (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 9 t0_0 (by decide +kernel) _ fun j => ?_
  blk_simp
  rw [after0_9]

/-- The scales' array is the block the one point writes. -/
theorem final10 : (dats m 0 c).arrAt 10 cfg0.N = out0_10 (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 10 t0_0 (by decide +kernel) _ fun j => ?_
  blk_simp
  rw [after0_10]

/-- The activations. -/
abbrev a0 : Vec Ideal S12x2048x4096 .fp8e4m3 := m ((c : Thread nD τ).loc main_arg0)
/-- The activation scales. -/
abbrev a1 : Vec Ideal S12x2048x32 .f32 := m ((c : Thread nD τ).loc main_arg1)
/-- The weights. -/
abbrev a2 : Vec Ideal S4096x1088 .fp8e4m3 := m ((c : Thread nD τ).loc main_arg2)
/-- The weight scales. -/
abbrev a3 : Vec Ideal S32x9 .f32 := m ((c : Thread nD τ).loc main_arg3)
/-- The layer-norm weights. -/
abbrev a4 : Vec Ideal S1024 .f32 := m ((c : Thread nD τ).loc main_arg4)
/-- The batch rows' first positions. -/
abbrev a5 : Vec Ideal S12 .i32 := m ((c : Thread nD τ).loc main_arg5)

/-! The body's loads are the whole arguments. -/

/-- The load of the activations. -/
theorem ld0 : View.ld (iblk m c 0 t0_0) r0_0 = a0 m c := (View.ld_unit_lit _ _ (by decide)).trans (iblk0 m c)
/-- The load of the activation scales. -/
theorem ld1 : View.ld (iblk m c 1 t0_0) r0_1 = a1 m c := (View.ld_unit_lit _ _ (by decide)).trans (iblk1 m c)
/-- The load of the weights. -/
theorem ld2 : View.ld (iblk m c 2 t0_0) r0_3 = a2 m c := (View.ld_unit_lit _ _ (by decide)).trans (iblk2 m c)
/-- The load of the weight scales. -/
theorem ld3 : View.ld (iblk m c 3 t0_0) r0_2 = a3 m c := (View.ld_unit_lit _ _ (by decide)).trans (iblk3 m c)
/-- The load of the layer-norm weights. -/
theorem ld4 : View.ld (iblk m c 4 t0_0) r0_4 = a4 m c := (View.ld_unit_lit _ _ (by decide)).trans (iblk4 m c)
/-- The load of the positions. -/
theorem ld5 : View.ld (iblk m c 5 t0_0) r0_7 = a5 m c := (View.ld_unit_lit _ _ (by decide)).trans (iblk5 m c)
/-- The load of the frequencies. -/
theorem ld6 (i : Fin 32) : View.ld (iblk m c 6 t0_0) r0_8 (ix1 i) = Spec.freq i :=
  (congrFun (View.ld_unit_lit _ _ (by decide)) _).trans (iblk6 m c i)

/-- The body's product is the product. -/
theorem pay2_eq (b : Fin 12) (l : Fin 2048) (n : Fin 1088) :
    k0_pay2 (F := Ideal) (a0 m c) (a1 m c) (a3 m c) (a2 m c) (ix3 b l n) = Math.kv (a0 m c) (a1 m c) (a2 m c) (a3 m c) b l n :=
  RefPoint.pay2_apply _ _ _ _ b l n

/-- The body's latents are the latents. -/
theorem pay3_eq (b : Fin 12) (l : Fin 2048) (g : Fin 8) (i : Fin 128) :
    k0_pay3 (F := Ideal) (a0 m c) (a1 m c) (a3 m c) (a2 m c) (a4 m c) (ix4 b l g i)
      = Math.lat (a0 m c) (a1 m c) (a2 m c) (a3 m c) (a4 m c) b l ⟨g.val * 128 + i.val, by omega⟩ := by
  rw [RefPoint.pay3_apply]
  simp only [pay2_eq]
  rfl

/-- The body's exponents are the exponents. -/
theorem pay5_eq (b : Fin 12) (l : Fin 2048) (g : Fin 8) :
    k0_pay5 (F := Ideal) (k0_pay4 (F := Ideal) (a0 m c) (a1 m c) (a3 m c) (a2 m c) (a4 m c)) (ix4 b l g 0)
      = Math.exponent (a0 m c) (a1 m c) (a2 m c) (a3 m c) (a4 m c) b l g := by
  rw [RefPoint.pay5_apply, RefPoint.pay4_apply]
  simp only [pay3_eq]
  rfl

/-- The code and exponent the body computes before any cast to bits. -/
theorem pay6_eq (b : Fin 12) (l : Fin 2048) (n : Fin 1024) :
    k0_pay6 (F := Ideal) (k0_pay3 (F := Ideal) (a0 m c) (a1 m c) (a3 m c) (a2 m c) (a4 m c)) (k0_pay4 (F := Ideal) (a0 m c) (a1 m c) (a3 m c) (a2 m c) (a4 m c))
        (ix4 b l ⟨n.val / 128, by omega⟩ ⟨n.val % 128, by omega⟩)
      = Math.code (a0 m c) (a1 m c) (a2 m c) (a3 m c) (a4 m c) b l n := by
  rw [RefPoint.pay6_apply, pay5_eq, pay3_eq]
  have e : (⟨n.val / 128 * 128 + n.val % 128, by omega⟩ : Fin 1024) = n := Fin.ext (by simp only; omega)
  simp only [e]
  rfl

/-- The body's rotated keys are the rotated keys, for any frequencies that are the frequencies. -/
theorem pay11_eq (f : Vec Ideal S32 .f32) (hf : ∀ i : Fin 32, f (ix1 i) = Spec.freq i) (b : Fin 12) (l : Fin 2048) (n : Fin 64) :
    k0_pay11 (F := Ideal) (k0_pay9 (F := Ideal) (k0_pay2 (F := Ideal) (a0 m c) (a1 m c) (a3 m c) (a2 m c))) (k0_pay10 (F := Ideal) (a5 m c)) f (ix3 b l n)
      = Math.key (a0 m c) (a1 m c) (a2 m c) (a3 m c) (a5 m c) b l n := by
  rw [RefPoint.pay11_apply]
  simp only [RefPoint.pay9_apply, RefPoint.pay10_apply, pay2_eq, hf]
  unfold Math.key
  have e : (n.val % 2 < 1) = (n.val % 2 = 0) := by simp
  simp only [e]
  rfl

/-- The scales. -/
theorem scales (b : Fin 12) (g : Fin 8) (l : Fin 2048) :
    (dats m 0 c).arrAt 10 cfg0.N (ix3 b g l) = Math.scale (a0 m c) (a1 m c) (a2 m c) (a3 m c) (a4 m c) b l g := by
  rw [final10]
  unfold out0_10 k0_pay23
  rw [View.canon_cons_unit_lit _ _ _ (by decide), ld0, ld1, ld2, ld3, ld4]
  rw [RefPoint.pay8_apply, pay5_eq]
  rfl

/-- The codes. -/
theorem codes (b : Fin 12) (l : Fin 2048) (n : Fin 1024) :
    (dats m 0 c).arrAt 9 cfg0.N (ix3 b l n) = Math.code (a0 m c) (a1 m c) (a2 m c) (a3 m c) (a4 m c) b l n := by
  rw [final9]
  unfold out0_9 k0_pay23 k0_pay22
  rw [View.canon_cons_unit_lit _ _ _ (by decide), ld0, ld1, ld2, ld3, ld4]
  rw [RefPoint.pay7_apply, ld0, ld1, ld2, ld3, ld4, pay6_eq]

/-- The rotated keys. -/
theorem keys (b : Fin 12) (n : Fin 64) (l : Fin 2048) :
    (dats m 0 c).arrAt 8 cfg0.N (ix3 b n l) = Math.key (a0 m c) (a1 m c) (a2 m c) (a3 m c) (a5 m c) b l n := by
  rw [final8]
  unfold out0_8 k0_pay26 k0_pay25
  rw [View.canon_cons_unit_lit _ _ _ (by decide), ld0, ld1, ld2, ld3, ld5]
  rw [RefPoint.pay12_apply]
  exact pay11_eq m c _ (ld6 m c) b l n

/-- The records. -/
theorem records (b : Fin 12) (l : Fin 2048) (r : Fin 1184) :
    (dats m 0 c).arrAt 7 cfg0.N (ix3 b r l) = Math.record (a0 m c) (a1 m c) (a2 m c) (a3 m c) (a4 m c) (a5 m c) b l r := by
  rw [final7]
  unfold out0_7 k0_pay27 k0_pay26 k0_pay25 k0_pay24 k0_pay23 k0_pay22
  rw [View.canon_cons_unit_lit _ _ _ (by decide)]
  repeat rw [ld0]
  repeat rw [ld1]
  repeat rw [ld2]
  repeat rw [ld3]
  repeat rw [ld4]
  repeat rw [ld5]
  have hf := ld6 m c
  generalize View.ld (iblk m c 6 t0_0) r0_8 = f at hf ⊢
  rw [RefPoint.pay1_apply]
  simp only [RefPoint.bits8_apply, RefPoint.pay17_apply, pay5_eq, pay11_eq m c f hf]
  unfold Math.record
  by_cases hc : r.val < 1024
  · refine (dif_pos hc).trans (Eq.trans ?_ (dif_pos hc).symm)
    exact congrArg (fun x => (Codes.rbits8 x).setWidth 8) (pay6_eq m c b l ⟨r.val, hc⟩)
  · rw [dif_neg hc, dif_neg hc]

end Cert.RefArrays
end
-- ==== Proof.Algebraic.lean ====
/-
  The value claim: over the extended reals the kernel's four results are the reference's.
-/
module

public import proofs.«01_k».proof.Defs
public import proofs.«01_k».proof.Proof.KArrays
public import proofs.«01_k».proof.Proof.RefArrays
public import proofs.«01_k».proof.Proof.Gen.Pre_gamma_finite
public import Idealize.ShloMosaic.Lib.ReduceAll
public import Idealize.ShloMosaic.Lib.Claim
public import Idealize.ShloMosaic.Lib.Pointwise

@[expose] public section

set_option maxRecDepth 16384

noncomputable section

namespace Cert.Algebraic

open Idealize.ShloMosaic Idealize.ShloMosaic.TcCoe Idealize.SL.Sem

/-- The precondition, read: every layer-norm weight is finite. -/
theorem pre_finite (x0 : FVec Ideal Cert.Pre_gamma_finite.S12x2048x4096 .fp8e4m3) (x1 : FVec Ideal Cert.Pre_gamma_finite.S12x2048x32 .f32)
    (x2 : FVec Ideal Cert.Pre_gamma_finite.S4096x1088 .fp8e4m3) (x3 : FVec Ideal Cert.Pre_gamma_finite.S32x9 .f32)
    (x4 : FVec Ideal Cert.Pre_gamma_finite.S1024 .f32) (x5 : IVec Cert.Pre_gamma_finite.S12 32)
    (h : Cert.Pre_gamma_finite.fn (F := Ideal) x0 x1 x2 x3 x4 x5 = fun _ => 1#1) (n : Fin 1024) :
    FloatOps.absf (F := Ideal) (φ := .f32) (x4 (ix1 n)) ≤ Ideal.ofBits .f32 0x7F7FFFFF#32 := by
  unfold Cert.Pre_gamma_finite.fn at h
  have : Subsingleton Cert.Pre_gamma_finite.S_.Idx := ⟨fun a b => funext fun i => i.elim0⟩
  have e := Host.reduce_andi_all _ _ _ _ _ (congrFun h fun i => i.elim0) (ix1 n)
  have e' : BitVec.ofBool (decide (FloatOps.absf (F := Ideal) (φ := .f32) (x4 (ix1 n)) ≤ Ideal.ofBits .f32 0x7F7FFFFF#32)) = 1#1 := e
  by_contra hc
  rw [decide_eq_false hc] at e'
  exact absurd e' (by decide)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (c' : Dev Cert.ReferenceIdeal.nD)
  (h0 : RefArrays.a0 m' c' = Outs.a0 m c) (h1 : RefArrays.a1 m' c' = Outs.a1 m c) (h2 : RefArrays.a2 m' c' = Outs.a2 m c)
  (h3 : RefArrays.a3 m' c' = Outs.a3 m c)

include h0 h1 h2 h3

/-- The two rotated keys agree where the arguments do. -/
theorem keys (h5 : RefArrays.a5 m' c' = Outs.a5 m c) :
    (Cert.ReferenceIdeal.Gen.dats m' 0 c').arrAt 8 Cert.ReferenceIdeal.cfg0.N = (Cert.KernelIdeal.Gen.dats m 0 c).arrAt 8 Cert.KernelIdeal.cfg0.N := by
  rw [KArrays.keys m c]
  funext i
  obtain ⟨b, n, l, rfl⟩ : ∃ (b : Fin 12) (n : Fin 64) (l : Fin 2048), i = ix3 b n l :=
    ⟨i 0, i 1, i 2, by funext d; match d with | ⟨0, _⟩ => rfl | ⟨1, _⟩ => rfl | ⟨2, _⟩ => rfl⟩
  refine (RefArrays.keys m' c' b n l).trans ?_
  rw [h0, h1, h2, h3, h5]
  exact KArrays.K_at m c _ b n l rfl rfl rfl

variable (h4 : RefArrays.a4 m' c' = Outs.a4 m c)
  (hγ : ∀ n : Fin 1024, FloatOps.absf (F := Ideal) (φ := .f32) (Outs.a4 m c (ix1 n)) ≤ Ideal.ofBits .f32 0x7F7FFFFF#32)

include h4 hγ

/-- The two codes agree where the arguments do. -/
theorem codes : (Cert.ReferenceIdeal.Gen.dats m' 0 c').arrAt 9 Cert.ReferenceIdeal.cfg0.N = (Cert.KernelIdeal.Gen.dats m 0 c).arrAt 9 Cert.KernelIdeal.cfg0.N := by
  rw [KArrays.codes m c hγ]
  funext i
  obtain ⟨b, l, n, rfl⟩ : ∃ (b : Fin 12) (l : Fin 2048) (n : Fin 1024), i = ix3 b l n :=
    ⟨i 0, i 1, i 2, by funext d; match d with | ⟨0, _⟩ => rfl | ⟨1, _⟩ => rfl | ⟨2, _⟩ => rfl⟩
  refine (RefArrays.codes m' c' b l n).trans ?_
  rw [h0, h1, h2, h3, h4]
  exact KArrays.C_at m c _ b l n rfl rfl rfl

/-- The two records agree, byte for byte, where the arguments do. -/
theorem records (h5 : RefArrays.a5 m' c' = Outs.a5 m c) :
    (Cert.ReferenceIdeal.Gen.dats m' 0 c').arrAt 7 Cert.ReferenceIdeal.cfg0.N = (Cert.KernelIdeal.Gen.dats m 0 c).arrAt 7 Cert.KernelIdeal.cfg0.N := by
  rw [KArrays.records m c hγ]
  funext i
  obtain ⟨b, r, l, rfl⟩ : ∃ (b : Fin 12) (r : Fin 1184) (l : Fin 2048), i = ix3 b r l :=
    ⟨i 0, i 1, i 2, by funext d; match d with | ⟨0, _⟩ => rfl | ⟨1, _⟩ => rfl | ⟨2, _⟩ => rfl⟩
  refine (RefArrays.records m' c' b l r).trans ?_
  rw [h0, h1, h2, h3, h4, h5]
  exact KArrays.R_at m c _ b r l rfl rfl rfl

/-- The two scales agree where the arguments do. -/
theorem scales : (Cert.ReferenceIdeal.Gen.dats m' 0 c').arrAt 10 Cert.ReferenceIdeal.cfg0.N = (Cert.KernelIdeal.Gen.dats m 0 c).arrAt 10 Cert.KernelIdeal.cfg0.N := by
  rw [KArrays.scales m c hγ]
  funext i
  obtain ⟨b, g, l, rfl⟩ : ∃ (b : Fin 12) (g : Fin 8) (l : Fin 2048), i = ix3 b g l :=
    ⟨i 0, i 1, i 2, by funext d; match d with | ⟨0, _⟩ => rfl | ⟨1, _⟩ => rfl | ⟨2, _⟩ => rfl⟩
  refine (RefArrays.scales m' c' b g l).trans ?_
  rw [h0, h1, h2, h3, h4]
  exact KArrays.S_at m c _ b g l rfl rfl rfl

end

/-- Over the extended reals the kernel's results are the reference's. -/
theorem algebraic : Cert.algebraic_KernelIdeal_ReferenceIdeal_pre_gamma_finite := by
  pair_intro
  · run_from Cert.KernelIdeal.Value.run_blocks m g
  · run_from Cert.ReferenceIdeal.Blocks.run_blocks m' g'
    · obtain ⟨h0, h1, h2, h3, h4, h5⟩ := hagree c
      exact records m m' c c h0 h1 h2 h3 h4 (pre_finite _ _ _ _ _ _ (hpre c)) h5
    · obtain ⟨h0, h1, h2, h3, h4, h5⟩ := hagree c
      exact keys m m' c c h0 h1 h2 h3 h5
    · obtain ⟨h0, h1, h2, h3, h4, h5⟩ := hagree c
      exact codes m m' c c h0 h1 h2 h3 h4 (pre_finite _ _ _ _ _ _ (hpre c))
    · obtain ⟨h0, h1, h2, h3, h4, h5⟩ := hagree c
      exact scales m m' c c h0 h1 h2 h3 h4 (pre_finite _ _ _ _ _ _ (hpre c))

end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_finite
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The idealized kernel's two rewrites: pairs of bf16 rows out of words of [32, 128], and bf16 halves packed into those words. -/
theorem preserves : Cert.preserves_Kernel_KernelIdeal :=
  ⟨IdealRules.bf16_pair.statement Cert.KernelIdeal.S64x128 Cert.KernelIdeal.S32x128, IdealRules.bf16_pack.statement Cert.KernelIdeal.S32x128⟩

/-- Every claim: the frames, the idealization, the value. -/
theorem claim : Cert.Claim := ⟨Cert.Kernel.Gen.facts, Cert.KernelIdeal.Gen.facts, Cert.ReferenceIdeal.Gen.facts, Cert.Pre_gamma_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, Cert.Algebraic.algebraic⟩

end Cert.Proof

end
